-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![1536, 1536]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![768, 1536]⟩ ⟨2, ![1536, 1536]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S768x768 : Shape := ⟨2, ![768, 768]⟩
abbrev S2 : Shape := ⟨1, ![2]⟩
abbrev S8 : Shape := ⟨1, ![8]⟩
abbrev S1 : Shape := ⟨1, ![1]⟩
abbrev S_ : Shape := ⟨0, ![]⟩
abbrev S96x768 : Shape := ⟨2, ![96, 768]⟩
abbrev S96x1536 : Shape := ⟨2, ![96, 1536]⟩

abbrev nBuf : Space → Nat
  | .hbm => 3
  | .vmem => 8
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S768x768, .f32⟩
  | .local _ .vmem, ⟨1, _⟩ => ⟨S768x1536, .f32⟩
  | .local _ .vmem, ⟨2, _⟩ => ⟨S768x1536, .f32⟩
  | .local _ .vmem, ⟨3, _⟩ => ⟨S768x1536, .bf16⟩
  | .local _ .vmem, ⟨4, _⟩ => ⟨S768x1536, .bf16⟩
  | .local _ .vmem, ⟨5, _⟩ => ⟨S768x1536, .f32⟩
  | .local _ .vmem, ⟨6, _⟩ => ⟨S768x1536, .bf16⟩
  | .local _ .vmem, ⟨7, _⟩ => ⟨S768x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c768_i32 : BitVec 32 := 768#32
  let v8 : BitVec 32 := Scalar.muli v5 c768_i32
  let c0_i32_4 : BitVec 32 := 0#32
  ![v8.toNat, 0]
def k0_dev1 (d0 : Dev nD) : Nat :=
  let c0_i32_8 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v15 : BitVec 32 := Scalar.muli v6 c2_i32_7
  let v16 : BitVec 32 := Scalar.addi c0_i32_8 v15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v17 : BitVec 32 := Scalar.muli v5 c1_i32_9
  let v18 : BitVec 32 := Scalar.addi v16 v17
  v18.toNat
def k0_dev2 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v19 : BitVec 32 := Scalar.muli v2 c2_i32_11
  let v20 : BitVec 32 := Scalar.addi c0_i32_12 v19
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_13 : BitVec 32 := 1#32
  let v21 : BitVec 32 := Scalar.muli v7 c1_i32_13
  let v22 : BitVec 32 := Scalar.addi v20 v21
  v22.toNat
def k0_dev3 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v38 : BitVec 32 := Scalar.muli v6 c2_i32_27
  let v39 : BitVec 32 := Scalar.addi c0_i32_28 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v40 : BitVec 32 := Scalar.muli v5 c1_i32_29
  let v41 : BitVec 32 := Scalar.addi v39 v40
  v41.toNat
def k0_dev4 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v58 : BitVec 32 := Scalar.muli v6 c2_i32_44
  let v59 : BitVec 32 := Scalar.addi c0_i32_45 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v60 : BitVec 32 := Scalar.muli v5 c1_i32_46
  let v61 : BitVec 32 := Scalar.addi v59 v60
  v61.toNat
def k0_dev5 (d0 : Dev nD) : Nat :=
  let c0_i32_61 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_60 : BitVec 32 := 2#32
  let v78 : BitVec 32 := Scalar.muli v6 c2_i32_60
  let v79 : BitVec 32 := Scalar.addi c0_i32_61 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_62 : BitVec 32 := 1#32
  let v80 : BitVec 32 := Scalar.muli v5 c1_i32_62
  let v81 : BitVec 32 := Scalar.addi v79 v80
  v81.toNat
def k0_dev6 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v98 : BitVec 32 := Scalar.muli v6 c2_i32_75
  let v99 : BitVec 32 := Scalar.addi c0_i32_76 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v100 : BitVec 32 := Scalar.muli v5 c1_i32_77
  let v101 : BitVec 32 := Scalar.addi v99 v100
  v101.toNat
def k0_dev7 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v118 : BitVec 32 := Scalar.muli v6 c2_i32_90
  let v119 : BitVec 32 := Scalar.addi c0_i32_91 v118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v120 : BitVec 32 := Scalar.muli v5 c1_i32_92
  let v121 : BitVec 32 := Scalar.addi v119 v120
  v121.toNat
def k0_dev8 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v138 : BitVec 32 := Scalar.muli v6 c2_i32_105
  let v139 : BitVec 32 := Scalar.addi c0_i32_106 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v140 : BitVec 32 := Scalar.muli v5 c1_i32_107
  let v141 : BitVec 32 := Scalar.addi v139 v140
  v141.toNat
def k0_dev9 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v158 : BitVec 32 := Scalar.muli v6 c2_i32_120
  let v159 : BitVec 32 := Scalar.addi c0_i32_121 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v160 : BitVec 32 := Scalar.muli v5 c1_i32_122
  let v161 : BitVec 32 := Scalar.addi v159 v160
  v161.toNat
def k0_dev10 (d0 : Dev nD) : Nat :=
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_135 : BitVec 32 := 2#32
  let v178 : BitVec 32 := Scalar.muli v6 c2_i32_135
  let v179 : BitVec 32 := Scalar.addi c0_i32_136 v178
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v180 : BitVec 32 := Scalar.muli v5 c1_i32_137
  let v181 : BitVec 32 := Scalar.addi v179 v180
  v181.toNat
def k0_dev11 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v208 : BitVec 32 := Scalar.muli v2 c2_i32_161
  let v209 : BitVec 32 := Scalar.addi c0_i32_162 v208
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v210 : BitVec 32 := Scalar.muli v7 c1_i32_163
  let v211 : BitVec 32 := Scalar.addi v209 v210
  v211.toNat
def k0_off2 (d0 : Dev nD) (c0_i32_150 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c768_i32 : BitVec 32 := 768#32
  let v8 : BitVec 32 := Scalar.muli v5 c768_i32
  let v196 : BitVec 32 := Scalar.addi v8 c0_i32_150
  let c0_i32_169 : BitVec 32 := 0#32
  ![v196.toNat, 0]
def k0_dev12 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v242 : BitVec 32 := Scalar.muli v2 c2_i32_192
  let v243 : BitVec 32 := Scalar.addi c0_i32_193 v242
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v244 : BitVec 32 := Scalar.muli v7 c1_i32_194
  let v245 : BitVec 32 := Scalar.addi v243 v244
  v245.toNat
def k0_dev13 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v276 : BitVec 32 := Scalar.muli v2 c2_i32_223
  let v277 : BitVec 32 := Scalar.addi c0_i32_224 v276
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_225 : BitVec 32 := 1#32
  let v278 : BitVec 32 := Scalar.muli v7 c1_i32_225
  let v279 : BitVec 32 := Scalar.addi v277 v278
  v279.toNat
def k0_dev14 (d0 : Dev nD) : Nat :=
  let c0_i32_255 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_254 : BitVec 32 := 2#32
  let v310 : BitVec 32 := Scalar.muli v2 c2_i32_254
  let v311 : BitVec 32 := Scalar.addi c0_i32_255 v310
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_256 : BitVec 32 := 1#32
  let v312 : BitVec 32 := Scalar.muli v7 c1_i32_256
  let v313 : BitVec 32 := Scalar.addi v311 v312
  v313.toNat
def k0_dev15 (d0 : Dev nD) : Nat :=
  let c0_i32_286 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_285 : BitVec 32 := 2#32
  let v344 : BitVec 32 := Scalar.muli v2 c2_i32_285
  let v345 : BitVec 32 := Scalar.addi c0_i32_286 v344
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_287 : BitVec 32 := 1#32
  let v346 : BitVec 32 := Scalar.muli v7 c1_i32_287
  let v347 : BitVec 32 := Scalar.addi v345 v346
  v347.toNat
def k0_dev16 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v378 : BitVec 32 := Scalar.muli v2 c2_i32_316
  let v379 : BitVec 32 := Scalar.addi c0_i32_317 v378
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_318 : BitVec 32 := 1#32
  let v380 : BitVec 32 := Scalar.muli v7 c1_i32_318
  let v381 : BitVec 32 := Scalar.addi v379 v380
  v381.toNat
def k0_dev17 (d0 : Dev nD) : Nat :=
  let c0_i32_348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_347 : BitVec 32 := 2#32
  let v412 : BitVec 32 := Scalar.muli v2 c2_i32_347
  let v413 : BitVec 32 := Scalar.addi c0_i32_348 v412
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_349 : BitVec 32 := 1#32
  let v414 : BitVec 32 := Scalar.muli v7 c1_i32_349
  let v415 : BitVec 32 := Scalar.addi v413 v414
  v415.toNat
def k0_dev18 (d0 : Dev nD) : Nat :=
  let c0_i32_379 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_378 : BitVec 32 := 2#32
  let v446 : BitVec 32 := Scalar.muli v2 c2_i32_378
  let v447 : BitVec 32 := Scalar.addi c0_i32_379 v446
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_380 : BitVec 32 := 1#32
  let v448 : BitVec 32 := Scalar.muli v7 c1_i32_380
  let v449 : BitVec 32 := Scalar.addi v447 v448
  v449.toNat
def k0_off3 (d0 : Dev nD) (c0_i32_404 : BitVec 32) : Fin 2 → Nat :=
  let c1_i32_389 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v460 : BitVec 32 := Scalar.subi c1_i32_389 v5
  let c768_i32_390 : BitVec 32 := 768#32
  let v461 : BitVec 32 := Scalar.muli v460 c768_i32_390
  let v475 : BitVec 32 := Scalar.addi v461 c0_i32_404
  let c0_i32_406 : BitVec 32 := 0#32
  ![v475.toNat, 0]
-- ==== ReferenceIdeal.lean ====
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x1536, .f32⟩
  | .hbm, ⟨2, _⟩ => ⟨S1536x1536, .f32⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
The kernel's body as a program over its eight row chunks.

The printed body is one straight run of statements, every chunk written out at its own offsets. Here the same run is written
with the chunk as a variable: a head (the two loads and the handshake with both neighbours), then four passes over the chunks.
`body_eq` says that the printed body is this program, so that each pass can be reasoned about once, for a chunk `r`.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.Summa

open Cert.KernelIdeal Cert.KernelIdeal.Gen
open Idealize.ShloMosaic Idealize.ShloMosaic.TcCoe
open Idealize.SL Idealize.SL.Sem

variable {F : FTy → Type} [FloatOps F]

/-! ## The buffers -/

/-- This device's columns of the left factor. -/
abbrev aH : Memref sig .tc .hbm S1536x768 .f32 := Memref.whole main_arg0
/-- This device's rows of the right factor. -/
abbrev bH : Memref sig .tc .hbm S768x1536 .f32 := Memref.whole main_arg1
/-- The result array. -/
abbrev oH : Memref sig .tc .hbm S1536x1536 .f32 := Memref.whole main_v1
/-- The half of the left factor's rows this device multiplies. -/
abbrev aV : Memref sig .tc .vmem S768x768 .f32 := Memref.whole cc0_scratch0
/-- The right factor's rows. -/
abbrev bV : Memref sig .tc .vmem S768x1536 .f32 := Memref.whole cc0_scratch1
/-- The partial products, later the other row half of the result. -/
abbrev pV : Memref sig .tc .vmem S768x1536 .f32 := Memref.whole cc0_scratch2
/-- The partial products rounded, as sent along the first mesh axis. -/
abbrev pS : Memref sig .tc .vmem S768x1536 .bf16 := Memref.whole cc0_scratch3
/-- Where the first axis's neighbour lands its partial products. -/
abbrev xR : Memref sig .tc .vmem S768x1536 .bf16 := Memref.whole cc0_scratch4
/-- The sums of both partial products. -/
abbrev rV : Memref sig .tc .vmem S768x1536 .f32 := Memref.whole cc0_scratch5
/-- The sums rounded, as sent along the second mesh axis. -/
abbrev rS : Memref sig .tc .vmem S768x1536 .bf16 := Memref.whole cc0_scratch6
/-- Where the second axis's neighbour lands its sums. -/
abbrev yR : Memref sig .tc .vmem S768x1536 .bf16 := Memref.whole cc0_scratch7

/-! ## The rectangles -/

/-- Chunk `r` of a 768 by 768 buffer lies inside it. -/
theorem inb_a (r : Fin 8) : ∀ a, (![96 * r.val, 0] : Fin 2 → Nat) a + S96x768.size a ≤ S768x768.size a := by
  revert r; decide
/-- Chunk `r` of a 768-row, 1536-column buffer lies inside it. -/
theorem inb_w (r : Fin 8) : ∀ a, (![96 * r.val, 0] : Fin 2 → Nat) a + S96x1536.size a ≤ S768x1536.size a := by
  revert r; decide
/-- Semaphore `r` of an array of eight lies inside it. -/
theorem inb_s (r : Fin 8) : ∀ a, (![r.val] : Fin 1 → Nat) a + S1.size a ≤ S8.size a := by
  revert r; decide

/-- Chunk `r` of a 768-row, 768-column buffer. -/
abbrev aRect (r : Fin 8) : Rect S768x768 := Rect.unit (s := S768x768) ![96 * r.val, 0] S96x768.size (inb_a r)
/-- Chunk `r` of a 768-row, 1536-column buffer. -/
abbrev wRect (r : Fin 8) : Rect S768x1536 := Rect.unit (s := S768x1536) ![96 * r.val, 0] S96x1536.size (inb_w r)
/-- All of a 768-row, 1536-column buffer. -/
abbrev bRect : Rect S768x1536 := Rect.unit (s := S768x1536) ![0, 0] S768x1536.size inb_S768x1536_S768x1536_0_0
/-- The row half of its columns of the left factor that device `d` multiplies. -/
abbrev hRect (d : Dev nD) : Rect S1536x768 := Rect.unit (s := S1536x768) (k0_off1 d) S768x768.size (k0_off1_inb d)
/-- Chunk `r` of the result's rows that device `d` sums itself. -/
abbrev oRect (d : Dev nD) (r : Fin 8) : Rect S1536x1536 :=
  Rect.unit (s := S1536x1536) (k0_off2 d (BitVec.ofNat 32 (96 * r.val))) S96x1536.size (k0_off2_inb d r)
/-- Chunk `r` of the result's rows that device `d` receives. -/
abbrev nRect (d : Dev nD) (r : Fin 8) : Rect S1536x1536 :=
  Rect.unit (s := S1536x1536) (k0_off3 d (BitVec.ofNat 32 (96 * r.val))) S96x1536.size (k0_off3_inb d r)

/-- A chunk of a rounded buffer starts and ends on whole packed rows. -/
theorem packed_w (r : Fin 8) : (wRect r).PackedRows (EltTy.packing .bf16) := by revert r; decide
/-- It also covers whole words. -/
theorem words_w (r : Fin 8) : (wRect r).WholeWords (EltTy.packing .bf16) := by revert r; decide

/-- Chunk `r` of the memref `m`. -/
abbrev ck {e : EltTy} (m : Memref sig .tc .vmem S768x1536 e) (r : Fin 8) : Memref sig .tc .vmem S96x1536 e :=
  m.slice (wRect r) (fun _ => rfl)
/-- The row half of the left factor's columns that device `d` multiplies, as a memref. -/
abbrev aHalf (d : Dev nD) : Memref sig .tc .hbm S768x768 .f32 := aH.slice (hRect d) (fun _ => rfl)
/-- Chunk `r` of the result that device `d` sums, as a memref. -/
abbrev oOwn (d : Dev nD) (r : Fin 8) : Memref sig .tc .hbm S96x1536 .f32 := oH.slice (oRect d r) (fun _ => rfl)
/-- Chunk `r` of the result that device `d` receives, as a memref. -/
abbrev oNbr (d : Dev nD) (r : Fin 8) : Memref sig .tc .hbm S96x1536 .f32 := oH.slice (nRect d r) (fun _ => rfl)

/-- A transfer of a chunk of a rounded buffer moves whole words. -/
theorem wx (m : Memref sig .tc .vmem S768x1536 .bf16) (hm : m.IsWhole) (r : Fin 8) : (ck m r).view.WordExact :=
  hm.wordExact_slice rfl _ (words_w r)

/-! ## The semaphores -/

/-- The semaphore of chunk `r` in an array of eight. -/
def semAt (a : DmaSems sig S8) (r : Fin 8) : DmaSem sig :=
  ((a.slice (Rect.unit (s := S8) ![r.val] S1.size (inb_s r))).squeeze S_ squeezes_S1_S_).sem
/-- The semaphore of the left factor's load. -/
def ldA : DmaSem sig := ((cc0_scratch8.slice (Rect.unit (s := S2) ![0] S1.size inb_S2_S1_0)).squeeze S_ squeezes_S1_S_).sem
/-- The semaphore of the right factor's load. -/
def ldB : DmaSem sig := ((cc0_scratch8.slice (Rect.unit (s := S2) ![1] S1.size inb_S2_S1_1)).squeeze S_ squeezes_S1_S_).sem
/-- The barrier semaphore. -/
abbrev barS : Sem sig := (SemArray.scalar (sig.barrier 0 rfl) : Sems sig S_).sem

/-- The neighbour along the first mesh axis, as the kernel computes it. -/
abbrev xDev (d : Dev nD) : Dev nD := ⟨k0_dev1 d, k0_dev1_lt d⟩
/-- The neighbour along the second mesh axis, as the kernel computes it. -/
abbrev yDev (d : Dev nD) : Dev nD := ⟨k0_dev2 d, k0_dev2_lt d⟩

/-! ## The program -/

/-- The operations the kernel's programs are made of. -/
abbrev Eff (F : FTy → Type) [FloatOps F] : Type → Type _ := TpuEff nD τ sig (Elt F) Λ₀ .tc

/-- The loads of both factors, started before the handshake and awaited after it. -/
def head (d : Dev nD) : Prog (Eff F) PUnit := do
  Prog.lift (.enqueueDma (aHalf d) (.here aV) (.dma ldA) (View.wordExact_bits rfl) (Memref.isWhole_whole _).wordExact ⟨Or.inl rfl, trivial⟩)
  Prog.lift (.enqueueDma bH (.here bV) (.dma ldB) (Memref.isWhole_whole _).wordExact (Memref.isWhole_whole _).wordExact ⟨Or.inl rfl, trivial⟩)
  semSignalWord (xDev d) barS 1#32
  semSignalWord (yDev d) barS 1#32
  semWaitWord barS 2#32
  Prog.lift (.waitDma2 ldA (aHalf d) aV (View.wordExact_bits rfl) (Memref.isWhole_whole _).wordExact)
  Prog.lift (.waitDma2 ldB bH bV (Memref.isWhole_whole _).wordExact (Memref.isWhole_whole _).wordExact)

/-- First pass: chunk `r` of the partial product, kept and sent along the first axis. -/
def pass1 (d : Dev nD) (r : Fin 8) : Prog (Eff F) PUnit := do
  let a : Vec F S96x768 .f32 ← Prog.lift (.load aV (aRect r).toLoadRect (View.loadsAt_vmem h_S96x768))
  let b : Vec F S768x1536 .f32 ← Prog.lift (.load bV bRect.toLoadRect (View.loadsAt_vmem h_S768x1536))
  let _ : Vec F S96x1536 .f32 ← Prog.lift (.load pV (wRect r).toLoadRect (View.loadsAt_vmem h_S96x1536))
  Prog.lift (.store pV (wRect r) (k0_pay2 a b) Finset.univ (View.stores_vmem_bits_univ h_S96x1536 rfl) (.inl rfl))
  let _ : Vec F S96x1536 .bf16 ← Prog.lift (.load pS (wRect r).toLoadRect (View.loadsAt_vmem h_S96x1536))
  Prog.lift (.store pS (wRect r) (k0_pay3 a b) Finset.univ
    (View.stores_vmem h_S96x1536 ((Memref.isWhole_whole _).storeExact_slice rfl _ (packed_w r)) (fun _ => rfl)) (.inl rfl))
  Prog.lift (.enqueueDma (ck pS r) (.remote (Dev.tc (xDev d)) (ck xR r) (.dma (semAt cc0_scratch11 r))) (.dma (semAt cc0_scratch12 r))
    (wx pS (Memref.isWhole_whole _) r) (wx xR (Memref.isWhole_whole _) r) ⟨⟨rfl, Or.inl rfl⟩, trivial⟩)

/-- Second pass: chunk `r` of the sum, once the neighbour's half of it has landed: sent along the second axis and written out. -/
def pass2 (d : Dev nD) (r : Fin 8) : Prog (Eff F) PUnit := do
  Prog.lift (.waitDma2 (semAt cc0_scratch12 r) (ck pS r) (ck xR r) (wx pS (Memref.isWhole_whole _) r) (wx xR (Memref.isWhole_whole _) r))
  let p : Vec F S96x1536 .f32 ← Prog.lift (.load pV (wRect r).toLoadRect (View.loadsAt_vmem h_S96x1536))
  let x : Vec F S96x1536 .bf16 ← Prog.lift (.load xR (wRect r).toLoadRect (View.loadsAt_vmem h_S96x1536))
  let _ : Vec F S96x1536 .f32 ← Prog.lift (.load rV (wRect r).toLoadRect (View.loadsAt_vmem h_S96x1536))
  Prog.lift (.store rV (wRect r) (k0_pay30 p x) Finset.univ (View.stores_vmem_bits_univ h_S96x1536 rfl) (.inl rfl))
  let _ : Vec F S96x1536 .bf16 ← Prog.lift (.load rS (wRect r).toLoadRect (View.loadsAt_vmem h_S96x1536))
  Prog.lift (.store rS (wRect r) (k0_pay31 p x) Finset.univ
    (View.stores_vmem h_S96x1536 ((Memref.isWhole_whole _).storeExact_slice rfl _ (packed_w r)) (fun _ => rfl)) (.inl rfl))
  Prog.lift (.enqueueDma (ck rS r) (.remote (Dev.tc (yDev d)) (ck yR r) (.dma (semAt cc0_scratch13 r))) (.dma (semAt cc0_scratch14 r))
    (wx rS (Memref.isWhole_whole _) r) (wx yR (Memref.isWhole_whole _) r) ⟨⟨rfl, Or.inl rfl⟩, trivial⟩)
  Prog.lift (.enqueueDma (ck rV r) (.here (oOwn d r)) (.dma (semAt cc0_scratch9 r)) (View.wordExact_bits rfl) (View.wordExact_bits rfl) ⟨Or.inl rfl, trivial⟩)

/-- Third pass: chunk `r` of the neighbour's sums, once it has landed, written out. -/
def pass3 (d : Dev nD) (r : Fin 8) : Prog (Eff F) PUnit := do
  Prog.lift (.waitDma2 (semAt cc0_scratch14 r) (ck rS r) (ck yR r) (wx rS (Memref.isWhole_whole _) r) (wx yR (Memref.isWhole_whole _) r))
  let y : Vec F S96x1536 .bf16 ← Prog.lift (.load yR (wRect r).toLoadRect (View.loadsAt_vmem h_S96x1536))
  let _ : Vec F S96x1536 .f32 ← Prog.lift (.load pV (wRect r).toLoadRect (View.loadsAt_vmem h_S96x1536))
  Prog.lift (.store pV (wRect r) (k0_pay50 y) Finset.univ (View.stores_vmem_bits_univ h_S96x1536 rfl) (.inl rfl))
  Prog.lift (.enqueueDma (ck pV r) (.here (oNbr d r)) (.dma (semAt cc0_scratch10 r)) (View.wordExact_bits rfl) (View.wordExact_bits rfl) ⟨Or.inl rfl, trivial⟩)

/-- Last pass: the four transfers that leave chunk `r` have all been read. -/
def pass4 (d : Dev nD) (r : Fin 8) : Prog (Eff F) PUnit := do
  Prog.lift (.waitDma2 (semAt cc0_scratch11 r) (ck xR r) (ck pS r) (wx xR (Memref.isWhole_whole _) r) (wx pS (Memref.isWhole_whole _) r))
  Prog.lift (.waitDma2 (semAt cc0_scratch13 r) (ck yR r) (ck rS r) (wx yR (Memref.isWhole_whole _) r) (wx rS (Memref.isWhole_whole _) r))
  Prog.lift (.waitDma2 (semAt cc0_scratch9 r) (ck rV r) (oOwn d r) (View.wordExact_bits rfl) (View.wordExact_bits rfl))
  Prog.lift (.waitDma2 (semAt cc0_scratch10 r) (ck pV r) (oNbr d r) (View.wordExact_bits rfl) (View.wordExact_bits rfl))

/-- A pass over a list of chunks. -/
def over (p : Fin 8 → Prog (Eff F) PUnit) : List (Fin 8) → Prog (Eff F) PUnit
  | [] => pure ⟨⟩
  | r :: rs => p r >>= fun _ => over p rs

/-- The chunks in the kernel's order. -/
abbrev chunks : List (Fin 8) := [0, 1, 2, 3, 4, 5, 6, 7]

/-- The kernel's body, pass by pass. -/
def prog : Prog (Eff F) PUnit := do
  let d ← Prog.lift .deviceId
  head d
  over (pass1 d) chunks
  over (pass2 d) chunks
  over (pass3 d) chunks
  over (pass4 d) chunks

set_option maxRecDepth 100000 in
/-- The printed body is the program above. -/
theorem body_eq (t : Fin cfg0.N) : bodyAt0 (F := F) t = prog := by
  chain_rfl

end Cert.Summa

end
-- ==== Proof.Protocol.lean ====
/-
The protocol the four devices follow, and what every buffer holds when.

Every semaphore of a device is a cell with one round of the rounds library. The barrier cell collects one unit from each of the
two neighbours; with its unit a neighbour hands over the landing chunks this device will send into. A transfer's cell collects
that transfer's credit; with it come the chunks the transfer has written or has finished reading.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Memref
public import Idealize.ShloMosaic.Lib.Tactic

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the protocol's rounds: two possible duties in each. -/
abbrev UB : Type := URounds (GSem nD τ sig) Bool
/-- All the ghost state: the library's and the protocol's. -/
abbrev UU : Type := UR sig nD τ × UB

local notation "𝕄" => MT nD τ sig Unit (Elt F) ℕ UU ℕ

/-- Where the library's ghost state lies in the whole. -/
abbrev EP : Emb (UR sig nD τ) (MT nD τ sig Unit (Elt F) ℕ UU ℕ) := embL
/-- Where the protocol's ghost state lies in the whole. -/
abbrev ER : Emb UB (MT nD τ sig Unit (Elt F) ℕ UU ℕ) := embR

/-! ## The mesh -/

/-- The first axis's neighbour of the first axis's neighbour is the device itself. -/
theorem xDev_xDev (c : Dev nD) : xDev (xDev c) = c := by revert c; decide
/-- The second axis's neighbour of the second axis's neighbour is the device itself. -/
theorem yDev_yDev (c : Dev nD) : yDev (yDev c) = c := by revert c; decide

/-- Exchanging the devices along the first axis. -/
def xSwap : Dev nD ≃ Dev nD := ⟨xDev, xDev, xDev_xDev, xDev_xDev⟩
/-- Exchanging the devices along the second axis. -/
def ySwap : Dev nD ≃ Dev nD := ⟨yDev, yDev, yDev_yDev, yDev_yDev⟩

/-! ## The roles of the transfer semaphores -/

/-- What a transfer semaphore is for: the two loads, and for each chunk the two writes of the result, the sends and
    the receipts along both axes. -/
inductive Role where
  | ldA | ldB
  | st (r : Fin 8) | yst (r : Fin 8) | xs (r : Fin 8) | xr (r : Fin 8) | ys (r : Fin 8) | yr (r : Fin 8)

/-- The chunk of the `n`-th semaphore of an array of eight. -/
def chunkNo (n : ℕ) : Fin 8 := ⟨n % 8, Nat.mod_lt _ (by decide)⟩

/-- The role of a transfer semaphore, by its number. -/
def roleOf (s : DmaSem sig) : Role :=
  if s.val = 0 then .ldA else if s.val = 1 then .ldB
  else if s.val < 10 then .st (chunkNo (s.val - 2)) else if s.val < 18 then .yst (chunkNo (s.val - 10))
  else if s.val < 26 then .xs (chunkNo (s.val - 18)) else if s.val < 34 then .xr (chunkNo (s.val - 26))
  else if s.val < 42 then .ys (chunkNo (s.val - 34)) else .yr (chunkNo (s.val - 42))

/-- The role of the left factor's load semaphore. -/
theorem role_ldA : roleOf ldA = .ldA := rfl
/-- The role of the right factor's load semaphore. -/
theorem role_ldB : roleOf ldB = .ldB := rfl
/-- The role of the semaphore that chunk `r` is written to the result with. -/
theorem role_st (r : Fin 8) : roleOf (semAt cc0_scratch9 r) = .st r := by fin_cases r <;> rfl
/-- The role of the semaphore that received chunk `r` is written with. -/
theorem role_yst (r : Fin 8) : roleOf (semAt cc0_scratch10 r) = .yst r := by fin_cases r <;> rfl
/-- The role of chunk `r`'s send semaphore on the first axis. -/
theorem role_xs (r : Fin 8) : roleOf (semAt cc0_scratch11 r) = .xs r := by fin_cases r <;> rfl
/-- The role of chunk `r`'s receipt semaphore on the first axis. -/
theorem role_xr (r : Fin 8) : roleOf (semAt cc0_scratch12 r) = .xr r := by fin_cases r <;> rfl
/-- The role of chunk `r`'s send semaphore on the second axis. -/
theorem role_ys (r : Fin 8) : roleOf (semAt cc0_scratch13 r) = .ys r := by fin_cases r <;> rfl
/-- The role of chunk `r`'s receipt semaphore on the second axis. -/
theorem role_yr (r : Fin 8) : roleOf (semAt cc0_scratch14 r) = .yr r := by fin_cases r <;> rfl

/-- The credit of a chunk sent between devices. -/
abbrev NX : ℕ := (ck xR 0).view.dmaCredit
/-- The credit of a chunk written to the result. -/
abbrev NO : ℕ := (oOwn 0 0).view.dmaCredit

/-- The credit of the one transfer of each role. -/
def credit : Role → ℕ
  | .ldA => aV.view.dmaCredit
  | .ldB => bV.view.dmaCredit
  | .st _ => NO
  | .yst _ => NO
  | _ => NX

/-- Every transfer credits something. -/
theorem credit_pos (ρ : Role) : 0 < credit ρ := by
  cases ρ <;> exact View.dmaCredit_pos _ (by decide)

/-- All chunks of a buffer have the same credit. -/
theorem credit_ck {e : EltTy} (m : Memref sig .tc .vmem S768x1536 e) (r : Fin 8) : (ck m r).view.dmaCredit = (ck m 0).view.dmaCredit := rfl
/-- The credit of a chunk received on the first axis. -/
theorem credit_xR (r : Fin 8) : (ck xR r).view.dmaCredit = NX := rfl
/-- The credit of a chunk received on the second axis. -/
theorem credit_yR (r : Fin 8) : (ck yR r).view.dmaCredit = NX := rfl
/-- The credit of a chunk sent on the first axis. -/
theorem credit_pS (r : Fin 8) : (ck pS r).view.dmaCredit = NX := rfl
/-- The credit of a chunk sent on the second axis. -/
theorem credit_rS (r : Fin 8) : (ck rS r).view.dmaCredit = NX := rfl
/-- The credit of a chunk of the result that the device sums. -/
theorem credit_own (c : Dev nD) (r : Fin 8) : (oOwn c r).view.dmaCredit = NO := rfl
/-- The credit of a chunk of the result that the device receives. -/
theorem credit_nbr (c : Dev nD) (r : Fin 8) : (oNbr c r).view.dmaCredit = NO := rfl

/-! ## The cells -/

/-- The barrier cell of device `c`. -/
abbrev barC (c : Dev nD) : GSem nD τ sig := ((c : Thread nD τ), .reg barS)
/-- The cell of the transfer semaphore `s` of device `c`. -/
abbrev dmaC (c : Dev nD) (s : DmaSem sig) : GSem nD τ sig := ((c : Thread nD τ), .dma s)

/-! ## The contents -/

section Contents

variable (m : (ℓ : Loc nD τ sig) → Buf (Elt F) ℓ)

/-- The row half of the left factor's columns that device `c` multiplies. -/
def aAll (c : Dev nD) : Vec F S768x768 .f32 := (aHalf c).view.read (Elt F) (m ((c : Thread nD τ).loc main_arg0))
/-- Its rows of the right factor. -/
def bAll (c : Dev nD) : Vec F S768x1536 .f32 := m ((c : Thread nD τ).loc main_arg1)
/-- Chunk `r` of that half. -/
def aPart (c : Dev nD) (r : Fin 8) : Vec F S96x768 .f32 := fun j => aAll m c ((aRect r).emb j)
/-- Chunk `r` of the device's partial product. -/
def part (c : Dev nD) (r : Fin 8) : Vec F S96x1536 .f32 := k0_pay2 (aPart m c r) (bAll m c)
/-- The same rounded, as sent along the first axis. -/
def partSent (c : Dev nD) (r : Fin 8) : Vec F S96x1536 .bf16 := k0_pay3 (aPart m c r) (bAll m c)
/-- Chunk `r` of the sum of both partial products. -/
def total (c : Dev nD) (r : Fin 8) : Vec F S96x1536 .f32 := k0_pay30 (part m c r) (partSent m (xDev c) r)
/-- The same rounded, as sent along the second axis. -/
def totalSent (c : Dev nD) (r : Fin 8) : Vec F S96x1536 .bf16 := k0_pay31 (part m c r) (partSent m (xDev c) r)
/-- Chunk `r` of the neighbour's sums, widened again. -/
def other (c : Dev nD) (r : Fin 8) : Vec F S96x1536 .f32 := k0_pay50 (totalSent m (yDev c) r)

end Contents

/-! ## Ownership of memrefs -/

/-- Device `c` owns the memref `w` holding `X`. -/
abbrev has (c : Dev nD) {sp : Space} {sh : Shape} {e : EltTy} (w : Memref sig .tc sp sh e) (X : sh.Idx → Elt F e) : sProp 𝕄 :=
  owns (c : Thread nD τ) w fullShare X
/-- Device `c` owns the memref `w` holding anything. -/
def any (c : Dev nD) {sp : Space} {sh : Shape} {e : EltTy} (w : Memref sig .tc sp sh e) : sProp 𝕄 :=
  iprop(∃ X : sh.Idx → Elt F e, has c w X)

omit [FloatOps F] in
/-- A memref held at any contents may be kept in a cell. -/
instance any_storable (c : Dev nD) {sp : Space} {sh : Shape} {e : EltTy} (w : Memref sig .tc sp sh e) :
    BI.Storable (upEmb : UEmb _ 𝕄) (any (F := F) c w) := by unfold any; infer_instance

omit [FloatOps F] in
/-- A memref held at known contents is held at any. -/
theorem any_intro (c : Dev nD) {sp : Space} {sh : Shape} {e : EltTy} (w : Memref sig .tc sp sh e) (X : sh.Idx → Elt F e) :
    (has c w X : sProp 𝕄) ⊢ any c w := by
  unfold any; iintro H; iexists X; iexact H

/-! ## The schedule -/

section Sched

variable (m : (ℓ : Loc nD τ sig) → Buf (Elt F) ℓ)

/-- What the neighbours' barrier units hand device `c`: the first axis's neighbour its landing chunks for partial products,
    the second axis's neighbour its landing chunks for sums. -/
def barPay (c : Dev nD) (d : Bool) : sProp 𝕄 :=
  if d then bigSep Finset.univ fun r : Fin 8 => any (xDev c) (ck xR r) else bigSep Finset.univ fun r : Fin 8 => any (yDev c) (ck yR r)

/-- What a transfer hands device `c` when it is done. -/
def rolePay (c : Dev nD) : Role → sProp 𝕄
  | .ldA => has c aV (aAll m c)
  | .ldB => has c bV (bAll m c)
  | .st r => iprop(has c (oOwn c r) (total m c r) ∗ any c (ck rV r))
  | .yst r => iprop(has c (oNbr c r) (other m c r) ∗ any c (ck pV r))
  | .xs r => any c (ck pS r)
  | .xr r => has c (ck xR r) (partSent m (xDev c) r)
  | .ys r => any c (ck rS r)
  | .yr r => has c (ck yR r) (totalSent m (yDev c) r)

/-- What a barrier unit hands over may be kept in a cell. -/
instance barPay_storable (c : Dev nD) (d : Bool) : BI.Storable (upEmb : UEmb _ 𝕄) (barPay (F := F) c d) := by
  unfold barPay; split <;> infer_instance
/-- What a transfer hands over may be kept in a cell. -/
instance rolePay_storable (c : Dev nD) (ρ : Role) : BI.Storable (upEmb : UEmb _ 𝕄) (rolePay m c ρ) := by
  unfold rolePay; cases ρ <;> infer_instance

/-- One round on every cell: two units on a barrier cell, one transfer's credit on a transfer cell. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => credit (roleOf s)
  payload g _ d := match g.2 with | .reg _ => barPay g.1.1 d | .dma s => rolePay m g.1.1 (roleOf s)
  amount_pos g _ _ _ := by
    match h : g.2 with
    | .reg _ => exact Nat.one_pos
    | .dma s => exact credit_pos _

/-- Whatever the schedule hands over may be kept in a cell. -/
instance sched_storable (g : GSem nD τ sig) (r : ℕ) (d : Bool) : BI.Storable (upEmb : UEmb _ 𝕄) ((sched m).payload g r d) := by
  obtain ⟨t, s | s⟩ := g
  · exact barPay_storable t.1 d
  · exact rolePay_storable m t.1 (roleOf s)

/-- Both neighbours have a duty at the barrier. -/
theorem duties_bar (c : Dev nD) : (sched m).duties (barC c) 0 = Finset.univ := by dsimp only [sched]; exact if_pos ⟨rfl, rfl⟩
/-- A transfer semaphore has one duty. -/
theorem duties_dma (c : Dev nD) (s : DmaSem sig) : (sched m).duties (dmaC c s) 0 = {false} := by dsimp only [sched]; exact if_pos ⟨rfl, rfl⟩
/-- Each of the two duties is a duty at the barrier. -/
theorem mem_bar (c : Dev nD) (d : Bool) : d ∈ (sched m).duties (barC c) 0 := by rw [duties_bar]; exact Finset.mem_univ _
/-- The one duty is a duty at a transfer semaphore. -/
theorem mem_dma (c : Dev nD) (s : DmaSem sig) : false ∈ (sched m).duties (dmaC c s) 0 := by rw [duties_dma]; exact Finset.mem_singleton_self _
/-- After the first round there is no duty anywhere. -/
theorem duties_after (g : GSem nD τ sig) : ∀ r, 0 + 1 ≤ r → (sched m).duties g r = ∅ :=
  fun r hr => by dsimp only [sched]; exact if_neg fun h => by omega

/-- The barrier waits for two units. -/
theorem expect_bar (c : Dev nD) : (sched m).expect (barC c) 0 = 2 := by
  unfold Schedule.expect Schedule.amountOf; rw [duties_bar]; rfl
/-- A transfer semaphore waits for its transfer's credit. -/
theorem expect_dma (c : Dev nD) (s : DmaSem sig) : (sched m).expect (dmaC c s) 0 = credit (roleOf s) := by
  unfold Schedule.expect Schedule.amountOf; rw [duties_dma, Finset.sum_singleton]; rfl

/-- The whole round of a transfer cell pays what the transfer hands over. -/
theorem rest_dma (c : Dev nD) (s : DmaSem sig) :
    bigSep ((sched m).duties (dmaC c s) 0 \ ∅) (fun d => (sched m).payload (dmaC c s) 0 d) = rolePay m c (roleOf s) := by
  rw [Finset.sdiff_empty, duties_dma, bigSep_singleton]; rfl
/-- The whole round of a barrier cell pays what both neighbours hand over. -/
theorem rest_bar (c : Dev nD) :
    bigSep ((sched m).duties (barC c) 0 \ ∅) (fun d => (sched m).payload (barC c) 0 d) = iprop(barPay c true ∗ barPay c false) := by
  rw [Finset.sdiff_empty, duties_bar, bigSep_univ_eq_bigSepL [true, false] (by decide) (by decide)]; rfl

end Sched

/-! ## What a device owes, and the levels -/

/-- The receipts device `c` owes its first axis's neighbour for the chunks in `l`. -/
def oX (c : Dev nD) (l : List (Fin 8)) : CellTallies nD τ sig Unit :=
  (l.map fun r => tallyAt (dmaC (xDev c) (semAt cc0_scratch12 r)) () NX).sum
/-- The receipts device `c` owes its second axis's neighbour for the chunks in `l`. -/
def oY (c : Dev nD) (l : List (Fin 8)) : CellTallies nD τ sig Unit :=
  (l.map fun r => tallyAt (dmaC (yDev c) (semAt cc0_scratch14 r)) () NX).sum
/-- What device `c` owes at launch: every receipt, and a barrier unit to each neighbour. -/
def oAll (c : Dev nD) : CellTallies nD τ sig Unit :=
  (oX c chunks + oY c chunks) + tallyAt (barC (yDev c)) () 1 + tallyAt (barC (xDev c)) () 1

/-- The receipts owed on the first axis, one chunk split off. -/
theorem oX_cons (c : Dev nD) (r : Fin 8) (l : List (Fin 8)) :
    oX c (r :: l) = oX c l + tallyAt (dmaC (xDev c) (semAt cc0_scratch12 r)) () NX := by
  unfold oX; rw [List.map_cons, List.sum_cons, add_comm]
/-- The receipts owed on the second axis, one chunk split off. -/
theorem oY_cons (c : Dev nD) (r : Fin 8) (l : List (Fin 8)) :
    oY c (r :: l) = oY c l + tallyAt (dmaC (yDev c) (semAt cc0_scratch14 r)) () NX := by
  unfold oY; rw [List.map_cons, List.sum_cons, add_comm]

/-- Barrier cells wait lowest, then receipts along the first axis, then along the second; a device owes nothing lower. -/
def lv (g : GSem nD τ sig) (_ : Unit) : ℕ :=
  match g.2 with
  | .reg _ => 1
  | .dma s => match roleOf s with | .xr _ => 2 | .yr _ => 3 | _ => 0
/-- The labels that waits on a cell use: one on a main core's cells, none elsewhere. -/
def L (g : GSem nD τ sig) : Finset Unit := if g.1.2 = .tc then {()} else ∅
/-- Cells of other cores have no label. -/
theorem L_of_ne (g : GSem nD τ sig) (h : g.1.2 ≠ .tc) : L g = ∅ := if_neg h
/-- Cells of a main core have the one label. -/
theorem L_of_tc (g : GSem nD τ sig) (h : g.1.2 = .tc) : L g = {()} := if_pos h

/-- `O` is owed only to cells of level above `n`. -/
def Above (n : ℕ) (O : CellTallies nD τ sig Unit) : Prop := ∀ g u, 0 < O g u → g.1.2 = .tc ∧ n < lv g ()

/-- Nothing owed lies above every level. -/
theorem above_zero (n : ℕ) : Above n 0 := fun g u h => absurd h (by simp)
/-- Two debts above a level are together above it. -/
theorem above_add {n : ℕ} {O P : CellTallies nD τ sig Unit} (hO : Above n O) (hP : Above n P) : Above n (O + P) := fun g u h => by
  rw [Pi.add_apply, Finsupp.add_apply] at h
  rcases Nat.eq_zero_or_pos (O g u) with h' | h'
  · exact hP g u (by omega)
  · exact hO g u h'
/-- A debt to one cell above a level is above it. -/
theorem above_tally {n k : ℕ} {g : GSem nD τ sig} (hg : g.1.2 = .tc) (h : n < lv g ()) : Above n (tallyAt g () k) := fun g' u hu => by
  rw [tallyAt_apply] at hu
  by_cases e : g' = g ∧ u = ()
  · rw [e.1]; exact ⟨hg, h⟩
  · rw [if_neg e] at hu; exact absurd hu (Nat.lt_irrefl 0)
/-- So is a sum of debts over a list of chunks. -/
theorem above_sum {n : ℕ} (f : Fin 8 → CellTallies nD τ sig Unit) (h : ∀ r, Above n (f r)) (l : List (Fin 8)) : Above n (l.map f).sum := by
  induction l with
  | nil => exact above_zero n
  | cons r l ih => rw [List.map_cons, List.sum_cons]; exact above_add (h r) ih

/-- Receipts on the first axis are owed above level 1. -/
theorem above_oX (c : Dev nD) (l : List (Fin 8)) : Above 1 (oX c l) :=
  above_sum _ (fun r => above_tally rfl (by dsimp only [lv]; rw [role_xr]; exact Nat.lt_succ_self 1)) l
/-- Receipts on the second axis are owed above level 2. -/
theorem above_oY (c : Dev nD) (l : List (Fin 8)) : Above 2 (oY c l) :=
  above_sum _ (fun r => above_tally rfl (by dsimp only [lv]; rw [role_yr]; exact Nat.lt_succ_self 2)) l
/-- What lies above a level lies above every lower one. -/
theorem Above.mono {n k : ℕ} {O : CellTallies nD τ sig Unit} (h : Above n O) (hk : k ≤ n) : Above k O :=
  fun g u hu => ⟨(h g u hu).1, hk.trans_lt (h g u hu).2⟩
/-- All receipts lie above the barrier. -/
theorem above_receipts (c : Dev nD) (l l' : List (Fin 8)) : Above 1 (oX c l + oY c l') := above_add (above_oX c l) ((above_oY c l').mono (by decide))

/-- A device may wait on a cell below everything it owes. -/
theorem mayWait (c : Dev nD) (sm : SemLoc sig) (n : ℕ) {O : CellTallies nD τ sig Unit} (hsm : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_of_tc _ rfl]; exact Finset.mem_singleton_self _)
    (fun g u hg => by rw [L_of_tc _ (hO g u hg).1]; exact Finset.mem_singleton_self _)
    (fun p hp => by rw [Finset.mem_singleton.mp hp]; exact hsm)
    (fun g u hg => (hO g u hg).2)

end Cert.Summa

end
-- ==== Proof.Steps.lean ====
/-
The steps of a body, each as one rule on owned memrefs: a load, a store, a local transfer, a transfer to another device, and the
wait for a transfer. They are stated for any memref, slice and semaphore, and for any continuation.
-/
module

public import proofs.«01_k».proof.Proof.Protocol

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop needs a measure. -/
abbrev 𝒱₀ : Variants := Variants.none

/-- Device `c` runs `p` safely and ends in `Q`. -/
abbrev runs (c : Dev nD) {α : Type} (p : Prog (Eff F) α) (Q : α → sProp 𝕄) : sProp 𝕄 :=
  wp frame (wpE (defs₀ (F := F)) 𝒱₀ (c : Thread nD τ) none) Set.univ p Q

/-- A finished program runs to anything that holds. -/
theorem runs_done (c : Dev nD) {α : Type} (a : α) (Q : α → sProp 𝕄) : Q a ⊢ runs c (.ret a) Q := by
  unfold runs; rw [wp_ret]; iintro H; imodintro; iexact H

/-! ## What every device knows throughout -/

section Known

variable (m : (ℓ : Loc nD τ sig) → Buf (Elt F) ℓ) (K : Dev nD × SemLoc sig → ℕ)

/-- The cell of a semaphore of a device. -/
abbrev cellAt (p : Dev nD × SemLoc sig) : GSem nD τ sig := ((p.1 : Thread nD τ), p.2)

/-- Every cell follows the schedule, every cell's first round is open, and the levels are as assigned. -/
def known : sProp 𝕄 :=
  iprop((bigSep Finset.univ fun p : Dev nD × SemLoc sig => cellInv ER (sched m) (K p) (cellAt p))
    ∗ (bigSep Finset.univ fun p : Dev nD × SemLoc sig => reached ER (cellAt p) 0) ∗ levAts L lv)

/-- What every device knows can be used again and again. -/
instance known_persistent : BI.Persistent (known m K) := by unfold known; infer_instance

/-- It holds the invariant of every cell. -/
theorem known_inv (p : Dev nD × SemLoc sig) : known m K ⊢ cellInv ER (sched m) (K p) (cellAt p) := by
  unfold known; iintro ⟨#H, -, -⟩;
  iapply (show (bigSep Finset.univ fun p : Dev nD × SemLoc sig => cellInv ER (sched m) (K p) (cellAt p)) ⊢ cellInv ER (sched m) (K p) (cellAt p) from
    bigSep_elim (Finset.mem_univ p))
  iexact H
/-- It holds that every cell has reached its first round. -/
theorem known_reached (p : Dev nD × SemLoc sig) : known m K ⊢ reached ER (cellAt p) 0 := by
  unfold known; iintro ⟨-, #H, -⟩;
  iapply (show (bigSep Finset.univ fun p : Dev nD × SemLoc sig => (reached ER (cellAt p) 0 : sProp 𝕄)) ⊢ reached ER (cellAt p) 0 from
    bigSep_elim (Finset.mem_univ p))
  iexact H
/-- It holds the levels of the waits. -/
theorem known_levels : known m K ⊢ levAts L lv := by
  unfold known; iintro ⟨-, -, #H⟩; iexact H

end Known

/-- Device `c` owes `O`, whatever it has waited for. -/
def debt (c : Dev nD) (O : CellTallies nD τ sig Unit) : sProp 𝕄 := iprop(∃ W, owes (c : Thread nD τ) O W)

/-- The right to pay the duty of the transfer cell `s` of device `c`. -/
abbrev tok (c : Dev nD) (s : DmaSem sig) : sProp 𝕄 := dutyTok ER (dmaC c s) 0 false
/-- Device `c` has not yet waited on its transfer cell `s`. -/
abbrev pos (c : Dev nD) (s : DmaSem sig) : sProp 𝕄 := atPos ER (dmaC c s) 0 ∅ 0
/-- The credit of the transfer on the cell `s` of device `c`. -/
def crd (c : Dev nD) (s : DmaSem sig) : sProp 𝕄 := cred (tallyAt (dmaC c s) () (credit (roleOf s)))

/-! ## Loads and stores -/

/-- A load through a rectangle of a memref held whole reads that part of its contents. -/
theorem load_of (c : Dev nD) {sh : Shape} {e : EltTy} (w : Memref sig .tc .vmem sh e) (R : Rect sh) (X : sh.Idx → Elt F e)
    {hl : w.view.LoadsAt R.toLoadRect} {α : Type} {k : (R.shape.Idx → Elt F e) → Prog (Eff F) α} {Q : α → sProp 𝕄} :
    (has c w X : sProp 𝕄) ⊢ iprop((has c w X -∗ runs c (k fun j => X (R.emb j)) Q) -∗ runs c (.op (.load w R.toLoadRect hl) k) Q) := by
  unfold has owns
  iintro ⟨%f, %hf, H⟩ Hk
  subst hf
  iapply (wp_load 𝒱₀ (c : Thread nD τ) none Set.univ (m := w) (S := w.view.set) (View.setOn_subset_set _ _)) $$ H
  iintro H
  iapply Hk
  iexists f
  isplitr; · ipureintro; rfl
  iexact H

/-- A load through a rectangle reads the slice there. -/
theorem load_part (c : Dev nD) {sh : Shape} {e : EltTy} (w : Memref sig .tc .vmem sh e) (R : Rect sh) (hR : ∀ a, R.stride a = 1)
    (X : R.shape.Idx → Elt F e) {hl : w.view.LoadsAt R.toLoadRect} {α : Type} {k : (R.shape.Idx → Elt F e) → Prog (Eff F) α} {Q : α → sProp 𝕄} :
    (has c (w.slice R hR) X : sProp 𝕄) ⊢ iprop((has c (w.slice R hR) X -∗ runs c (k X) Q) -∗ runs c (.op (.load w R.toLoadRect hl) k) Q) := by
  unfold has owns
  iintro ⟨%f, %hf, H⟩ Hk
  subst hf
  iapply (wp_load_rect 𝒱₀ (c : Thread nD τ) none Set.univ (m := w) (r := R) (S := (w.slice R hR).view.set) subset_rfl) $$ H
  iintro H
  iapply Hk
  iexists f
  isplitr; · ipureintro; rfl
  iexact H

/-- The same load when nothing is known of the slice, and its result is not used. -/
theorem load_any (c : Dev nD) {sh : Shape} {e : EltTy} (w : Memref sig .tc .vmem sh e) (R : Rect sh) (hR : ∀ a, R.stride a = 1)
    {hl : w.view.LoadsAt R.toLoadRect} {α : Type} {k : Prog (Eff F) α} {Q : α → sProp 𝕄} :
    (any c (w.slice R hR) : sProp 𝕄) ⊢ iprop((any c (w.slice R hR) -∗ runs c k Q) -∗ runs c (.op (.load w R.toLoadRect hl) fun _ => k) Q) := by
  unfold any
  iintro ⟨%X, H⟩ Hk
  iapply (load_part c w R hR X (k := fun _ => k)) $$ H
  iintro H
  iapply Hk
  iexists X
  iexact H

/-- A full store through a rectangle leaves the slice there holding what is stored. -/
theorem store_part (c : Dev nD) {sh : Shape} {e : EltTy} (w : Memref sig .tc .vmem sh e) (R : Rect sh) (hR : ∀ a, R.stride a = 1)
    (v : R.shape.Idx → Elt F e) {hx : (w.access R).Stores Finset.univ}
    {hm : (Finset.univ : Finset R.shape.Idx) = Finset.univ ∨ ∀ a, R.stride a = 1} {α : Type} {k : PUnit → Prog (Eff F) α} {Q : α → sProp 𝕄} :
    (any c (w.slice R hR) : sProp 𝕄) ⊢ iprop((has c (w.slice R hR) v -∗ runs c (k ⟨⟩) Q) -∗ runs c (.op (.store w R v Finset.univ hx hm) k) Q) := by
  unfold any has owns
  iintro ⟨%X, %f, %hf, H⟩ Hk
  iapply (wp_store 𝒱₀ (c : Thread nD τ) none Set.univ (m := w) (r := R) (Mk := Finset.univ) (S := (w.slice R hR).view.set) subset_rfl) $$ H
  iintro H
  iapply Hk
  iexists ((w.access R).write (Elt F) f v Finset.univ)
  isplitr
  · ipureintro; exact View.read_write_univ _ _
  iexact H

/-! ## Transfers -/

section Transfers

variable (m : (ℓ : Loc nD τ sig) → Buf (Elt F) ℓ) (K : Dev nD × SemLoc sig → ℕ)

/-- A transfer within the device pays its cell's duty with what it lands and the source's share; its credit comes back. -/
theorem copy_step (c : Dev nD) {sp sp' : Space} {sh : Shape} {e : EltTy} (src : Memref sig .tc sp sh e) (dst : Memref sig .tc sp' sh e)
    (s : DmaSem sig) {q : PosShare TreeShare} (X : sh.Idx → Elt F e) (hN : dst.view.dmaCredit = credit (roleOf s))
    (hpay : iprop(has c dst X ∗ owns (c : Thread nD τ) src q X) ⊢ rolePay m c (roleOf s))
    {hsrc : src.view.WordExact} {hdst : dst.view.WordExact} {hsem : DmaTarget.Typed (nD := nD) sp (.dma s) (.here (p := (c : Thread nD τ).2) dst)}
    {α : Type} {k : PUnit → Prog (Eff F) α} {Q : α → sProp 𝕄} :
    iprop(known m K ∗ owns (c : Thread nD τ) src q X ∗ any c dst ∗ tok c s)
      ⊢ iprop((crd c s -∗ runs c (k ⟨⟩) Q)
          -∗ runs c (.op (.enqueueDma src (.here dst) (.dma s) hsrc hdst hsem) k) Q) := by
  iintro ⟨#HK, Hs, Hd, Ht⟩
  unfold any
  icases Hd with ⟨%Y, Hd⟩
  ihave Hs' := (show (owns (c : Thread nD τ) src q X : sProp 𝕄) ⊢ iprop(∃ f, ⌜src.view.read (Elt F) f = X⌝ ∗ (src.view.loc (c : Thread nD τ) ↦[src.view.set]{q} f)) from .rfl) $$ Hs
  ihave Hd' := (show (has c dst Y : sProp 𝕄) ⊢ iprop(∃ f, ⌜dst.view.read (Elt F) f = Y⌝ ∗ (dst.view.loc (c : Thread nD τ) ↦[dst.view.set]{fullShare} f)) from .rfl) $$ Hd
  icases Hs' with ⟨%f, %hf, Hs⟩
  icases Hd' with ⟨%g, %hg, Hd⟩
  iapply (Rounds.wp_copy_pointsTo 𝒱₀ ER (sched m) (c : Thread nD τ) none (κ := K (c, .dma s)) (r := 0) (d := false) (fs := f) (fd := g)
    (mem_dma m c s) () (credit (roleOf s)) hN rfl (by
      refine BI.Entails.trans ?_ hpay
      refine sep_mono ?_ ?_
      · refine (owns_intro (c : Thread nD τ) dst fullShare _).trans (Entails.of_eq ?_)
        rw [View.read_write_univ, hf]
      · refine (owns_intro (c : Thread nD τ) src q f).trans (Entails.of_eq ?_)
        rw [hf]))
  isplitr; · iapply (known_inv m K (c, .dma s)); iexact HK
  isplitl [Hs]; · iexact Hs
  isplitl [Hd]; · iexact Hd
  isplitl [Ht]; · iexact Ht
  iapply (known_reached m K (c, .dma s)); iexact HK

/-- A transfer to device `c'` pays the duty of the sender's cell with the source and that of the receiver's cell with what lands
    there; what it credits there is owed no longer, and the sender's credit comes back. -/
theorem send_step (c c' : Dev nD) {sp sp' : Space} {sh : Shape} {e : EltTy} (src : Memref sig .tc sp sh e) (dst : Memref sig .tc sp' sh e)
    (sS s : DmaSem sig) (X : sh.Idx → Elt F e) (hN : dst.view.dmaCredit = NX) (h₁ : credit (roleOf sS) = NX) (h₂ : credit (roleOf s) = NX)
    (hp₁ : (has c src X : sProp 𝕄) ⊢ rolePay m c (roleOf sS)) (hp₂ : (has c' dst X : sProp 𝕄) ⊢ rolePay m c' (roleOf s))
    {O₀ : CellTallies nD τ sig Unit} (O : CellTallies nD τ sig Unit) (hO : O₀ = O + tallyAt (dmaC c' s) () NX)
    {hsc : dst.view.ref.isScScratch = false}
    {hsrc : src.view.WordExact} {hdst : dst.view.WordExact} {hsem : DmaTarget.Typed sp (.dma s) (.remote (p := (c : Thread nD τ).2) (Dev.tc c') dst (.dma sS) hsc)}
    {α : Type} {k : PUnit → Prog (Eff F) α} {Q : α → sProp 𝕄} :
    iprop(known m K ∗ has c src X ∗ any c' dst ∗ debt c O₀ ∗ tok c sS ∗ tok c' s)
      ⊢ iprop(((crd c sS ∗ debt c O) -∗ runs c (k ⟨⟩) Q)
          -∗ runs c (.op (.enqueueDma src (.remote (Dev.tc c') dst (.dma sS) hsc) (.dma s) hsrc hdst hsem) k) Q) := by
  unfold debt
  iintro ⟨#HK, Hs, Hd, ⟨%W, HO⟩, Ht, Ht'⟩ Hk
  unfold any
  icases Hd with ⟨%Y, Hd⟩
  ihave Hs' := (show (has c src X : sProp 𝕄) ⊢ iprop(∃ f, ⌜src.view.read (Elt F) f = X⌝ ∗ (src.view.loc (c : Thread nD τ) ↦[src.view.set]{fullShare} f)) from .rfl) $$ Hs
  ihave Hd' := (show (has c' dst Y : sProp 𝕄) ⊢ iprop(∃ f, ⌜dst.view.read (Elt F) f = Y⌝ ∗ (dst.view.loc (c' : Thread nD τ) ↦[dst.view.set]{fullShare} f)) from .rfl) $$ Hd
  icases Hs' with ⟨%f, %hf, Hs⟩
  icases Hd' with ⟨%g, %hg, Hd⟩
  iapply (Rounds.wp_send_pointsTo 𝒱₀ ER (sched m) (c : Thread nD τ) none (c' := (c' : Thread nD τ)) (κ₁ := K (c, .dma sS)) (κ₂ := K (c', .dma s))
    (r₁ := 0) (r₂ := 0) (d₁ := false) (d₂ := false) (fs := f) (fd := g)
    (mem_dma m c sS) (mem_dma m c' s) () () NX hN h₁ h₂ O hO (W := W)
    ((owns_intro (c : Thread nD τ) src fullShare f).trans ((Entails.of_eq (by rw [hf])).trans hp₁))
    ((owns_intro (c' : Thread nD τ) dst fullShare _).trans ((Entails.of_eq (by rw [View.read_write_univ, hf])).trans hp₂))) $$ [Hs Hd HO Ht Ht']
  · isplitr; · iapply (known_inv m K (c, .dma sS)); iexact HK
    isplitr; · iapply (known_inv m K (c', .dma s)); iexact HK
    isplitl [Hs]; · iexact Hs
    isplitl [Hd]; · iexact Hd
    isplitl [HO]; · iexact HO
    isplitl [Ht]; · iexact Ht
    isplitr; · iapply (known_reached m K (c, .dma sS)); iexact HK
    isplitl [Ht']; · iexact Ht'
    iapply (known_reached m K (c', .dma s)); iexact HK
  iintro ⟨Hc, HO⟩
  iapply Hk
  isplitl [Hc]; · unfold crd; rw [h₁]; iexact Hc
  iexists W; iexact HO

/-- The wait for a transfer, below everything the device owes: what the transfer hands over, and the semaphore at zero again. -/
theorem wait_step (c : Dev nD) (s : DmaSem sig) (n : ℕ) {O : CellTallies nD τ sig Unit} (hs : lv (dmaC c s) () ≤ n) (hO : Above n O)
    {sp sp' : Space} {sh : Shape} {e : EltTy} (src : Memref sig .tc sp sh e) (dst : Memref sig .tc sp' sh e)
    (hN : dst.view.dmaCredit = credit (roleOf s)) {hsrc : src.view.WordExact} {hdst : dst.view.WordExact}
    {α : Type} {k : PUnit → Prog (Eff F) α} {Q : α → sProp 𝕄} :
    iprop(known m K ∗ crd c s ∗ debt c O ∗ pos c s)
      ⊢ iprop(((debt c O ∗ semVal (dmaC c s) 0 ∗ rolePay m c (roleOf s)) -∗ runs c (k ⟨⟩) Q)
          -∗ runs c (.op (.waitDma2 s src dst hsrc hdst) k) Q) := by
  unfold debt
  iintro ⟨#HK, Hc, ⟨%W, HO⟩, Hat⟩ Hk
  unfold crd
  rw [← hN]
  iapply (Rounds.wp_wait_rest_token 𝒱₀ ER (sched m) (c : Thread nD τ) none (κ := K (c, .dma s))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (known_inv m K (c, .dma s)); iexact HK
    isplitl [Hc]; · iexact Hc
    isplitl [HO]; · iexact HO
    isplitr
    · iapply (mayWait c (.dma s) n hs hO); iapply (known_levels m K); iexact HK
    iexact Hat
  iintro ⟨HO, Hat, -, Hpay⟩
  ihave Hpay' := (Entails.of_eq (rest_dma m c s)) $$ Hpay
  imod (Rounds.cell_close ER (sched m) (g := dmaC c s) (Set.mem_univ (K (c, .dma s))) (fun h => h) (R := 0 + 1) (duties_after m (dmaC c s))) $$ [Hat] with Hz
  · isplitr; · iapply (known_inv m K (c, .dma s)); iexact HK
    iexact Hat
  iapply Hk
  isplitl [HO]; · iexists _; iexact HO
  isplitl [Hz]; · iexact Hz
  iexact Hpay'

/-! ## A pass over chunks -/

/-- A pass that, at each chunk, takes the invariant `I` from the chunks left to the chunks left after it and the chunk's
    holdings `A` to `B`, does so over a list. -/
theorem over_runs (c : Dev nD) (p : Fin 8 → Prog (Eff F) PUnit) (I : List (Fin 8) → sProp 𝕄) (A B : Fin 8 → sProp 𝕄)
    (h : ∀ r l, iprop(known m K ∗ I (r :: l) ∗ A r) ⊢ runs c (p r) fun _ => iprop(I l ∗ B r)) (l : List (Fin 8)) :
    iprop(known m K ∗ I l ∗ bigSepL l A) ⊢ runs c (over p l) fun _ => iprop(I [] ∗ bigSepL l B) := by
  induction l with
  | nil =>
    show _ ⊢ runs c (.ret PUnit.unit) _
    unfold runs
    rw [wp_ret]
    iintro ⟨-, HI, HA⟩
    imodintro
    isplitl [HI]; · iexact HI
    iexact HA
  | cons r l ih =>
    show _ ⊢ runs c (p r >>= fun _ => over p l) _
    unfold runs
    rw [wp_bind, bigSepL_cons', bigSepL_cons']
    iintro ⟨#HK, HI, HA, HAs⟩
    iapply (wp_wand frame (wpE (defs₀ (F := F)) 𝒱₀ (c : Thread nD τ) none) Set.univ (Q := fun _ => iprop(I l ∗ B r))) $$ [HI HA]
    · iapply (h r l)
      isplitr; · iexact HK
      isplitl [HI] <;> iassumption
    iintro %_ ⟨HI, HB⟩
    iapply (wp_wand frame (wpE (defs₀ (F := F)) 𝒱₀ (c : Thread nD τ) none) Set.univ (Q := fun _ => iprop(I [] ∗ bigSepL l B))) $$ [HI HAs]
    · iapply ih
      isplitr; · iexact HK
      isplitl [HI] <;> iassumption
    iintro %_ ⟨HI, HBs⟩
    isplitl [HI]; · iexact HI
    isplitl [HB] <;> iassumption

end Transfers

end Cert.Summa

end
-- ==== Proof.Passes.lean ====
/-
The four passes of the kernel, each proved at one chunk `r` and so for all eight: what a chunk's turn takes and what it leaves.
-/
module

public import proofs.«01_k».proof.Proof.Steps

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The semaphores of a chunk: its write of the device's own sums, of the received ones, its sends and receipts. -/
abbrev stS (r : Fin 8) : DmaSem sig := semAt cc0_scratch9 r
/-- The semaphore of the write of a received chunk. -/
abbrev ystS (r : Fin 8) : DmaSem sig := semAt cc0_scratch10 r
/-- The semaphore of a chunk's send along the first axis. -/
abbrev xsS (r : Fin 8) : DmaSem sig := semAt cc0_scratch11 r
/-- The semaphore of a chunk's receipt along the first axis. -/
abbrev xrS (r : Fin 8) : DmaSem sig := semAt cc0_scratch12 r
/-- The semaphore of a chunk's send along the second axis. -/
abbrev ysS (r : Fin 8) : DmaSem sig := semAt cc0_scratch13 r
/-- The semaphore of a chunk's receipt along the second axis. -/
abbrev yrS (r : Fin 8) : DmaSem sig := semAt cc0_scratch14 r

variable (m : (ℓ : Loc nD τ sig) → Buf (Elt F) ℓ) (K : Dev nD × SemLoc sig → ℕ) (c : Dev nD)

/-! ## First pass -/

/-- Between the turns of the first pass: the receipts still owed, and both factors. -/
def inv1 (l : List (Fin 8)) : sProp 𝕄 := iprop(debt c (oX c l + oY c chunks) ∗ has c aV (aAll m c) ∗ has c bV (bAll m c))
/-- What chunk `r`'s turn in the first pass takes, -/
def pre1 (r : Fin 8) : sProp 𝕄 :=
  iprop(any c (ck pV r) ∗ any c (ck pS r) ∗ any (xDev c) (ck xR r) ∗ tok c (xsS r) ∗ tok (xDev c) (xrS r))
/-- and what it leaves: the partial product, and the credit of its send. -/
def post1 (r : Fin 8) : sProp 𝕄 := iprop(has c (ck pV r) (part m c r) ∗ crd c (xsS r))

omit [FloatOps F] in
/-- A load of all of the right factor reads it. -/
theorem load_b (X : S768x1536.Idx → Elt F .f32) : (fun j => X (bRect.emb j)) = X :=
  Memref.readAt_unit_zero (Elt F) cc0_scratch1 (funext fun a => by fin_cases a <;> rfl) inb_S768x1536_S768x1536_0_0 X

/-- The first pass at chunk `r`. -/
theorem pass1_runs (r : Fin 8) (l : List (Fin 8)) :
    iprop(known m K ∗ inv1 m c (r :: l) ∗ pre1 c r) ⊢ runs c (pass1 c r) fun _ => iprop(inv1 m c l ∗ post1 m c r) := by
  unfold pass1 inv1 pre1 post1
  simp only [Prog.lift, Prog.bind_op, Prog.bind_ret, Prog.pure_eq_ret]
  iintro ⟨#HK, ⟨HO, Ha, Hb⟩, Hp, Hs, Hx, Hts, Htr⟩
  iapply (load_of c aV (aRect r) (aAll m c)) $$ Ha; iintro Ha
  iapply (load_of c bV bRect (bAll m c)) $$ Hb; iintro Hb
  rw [load_b]
  iapply (load_any c pV (wRect r) (fun _ => rfl)) $$ Hp; iintro Hp
  iapply (store_part c pV (wRect r) (fun _ => rfl)) $$ Hp; iintro Hp
  iapply (load_any c pS (wRect r) (fun _ => rfl)) $$ Hs; iintro Hs
  iapply (store_part c pS (wRect r) (fun _ => rfl)) $$ Hs; iintro Hs
  iapply (send_step m K c (xDev c) (ck pS r) (ck xR r) (xsS r) (xrS r) (partSent m c r) rfl (by rw [role_xs]; rfl) (by rw [role_xr]; rfl)
    (by rw [role_xs]; exact any_intro c _ _) (by rw [role_xr]; unfold rolePay; rw [xDev_xDev])
    (O₀ := oX c (r :: l) + oY c chunks) (oX c l + oY c chunks) (by rw [oX_cons, add_right_comm])) $$ [Hs Hx HO Hts Htr]
  · isplitr; · iexact HK
    isplitl [Hs]; · iexact Hs
    isplitl [Hx]; · iexact Hx
    isplitl [HO]; · iexact HO
    isplitl [Hts] <;> iassumption
  iintro ⟨Hc, HO⟩
  iapply runs_done
  isplitl [HO Ha Hb]
  · isplitl [HO]; · iexact HO
    isplitl [Ha] <;> iassumption
  isplitl [Hp]; · iexact Hp
  iexact Hc

/-! ## Second pass -/

/-- What chunk `r`'s turn in the second pass takes, -/
def pre2 (r : Fin 8) : sProp 𝕄 :=
  iprop(has c (ck pV r) (part m c r) ∗ (crd c (xrS r) ∗ pos c (xrS r)) ∗ any c (ck rV r) ∗ any c (ck rS r) ∗ any (yDev c) (ck yR r)
    ∗ tok c (ysS r) ∗ tok (yDev c) (yrS r) ∗ tok c (stS r) ∗ any c (oOwn c r))
/-- and what it leaves: the credits of the send and of the write. -/
def post2 (r : Fin 8) : sProp 𝕄 :=
  iprop(any c (ck pV r) ∗ any c (ck xR r) ∗ semVal (dmaC c (xrS r)) 0 ∗ crd c (ysS r) ∗ crd c (stS r))

/-- The second pass at chunk `r`. -/
theorem pass2_runs (r : Fin 8) (l : List (Fin 8)) :
    iprop(known m K ∗ debt c (oY c (r :: l)) ∗ pre2 m c r) ⊢ runs c (pass2 c r) fun _ => iprop(debt c (oY c l) ∗ post2 c r) := by
  unfold pass2 pre2 post2
  simp only [Prog.lift, Prog.bind_op, Prog.bind_ret, Prog.pure_eq_ret]
  iintro ⟨#HK, HO, Hp, ⟨Hcr, Hat⟩, Hr, Hs, Hy, Hts, Htr, Htw, Ho⟩
  iapply (wait_step m K c (xrS r) 2 (by dsimp only [lv]; rw [role_xr]) (above_oY c (r :: l)) (ck pS r) (ck xR r) (by rw [role_xr]; rfl)) $$ [Hcr HO Hat]
  · isplitr; · iexact HK
    isplitl [Hcr]; · iexact Hcr
    isplitl [HO] <;> iassumption
  rw [role_xr]; unfold rolePay
  iintro ⟨HO, Hz, Hx⟩
  iapply (load_part c pV (wRect r) (fun _ => rfl)) $$ Hp; iintro Hp
  iapply (load_part c xR (wRect r) (fun _ => rfl)) $$ Hx; iintro Hx
  iapply (load_any c rV (wRect r) (fun _ => rfl)) $$ Hr; iintro Hr
  iapply (store_part c rV (wRect r) (fun _ => rfl)) $$ Hr; iintro Hr
  iapply (load_any c rS (wRect r) (fun _ => rfl)) $$ Hs; iintro Hs
  iapply (store_part c rS (wRect r) (fun _ => rfl)) $$ Hs; iintro Hs
  iapply (send_step m K c (yDev c) (ck rS r) (ck yR r) (ysS r) (yrS r) (totalSent m c r) rfl (by rw [role_ys]; rfl) (by rw [role_yr]; rfl)
    (by rw [role_ys]; exact any_intro c _ _) (by rw [role_yr]; unfold rolePay; rw [yDev_yDev])
    (oY c l) (oY_cons c r l)) $$ [Hs Hy HO Hts Htr]
  · isplitr; · iexact HK
    isplitl [Hs]; · iexact Hs
    isplitl [Hy]; · iexact Hy
    isplitl [HO]; · iexact HO
    isplitl [Hts] <;> iassumption
  iintro ⟨Hc, HO⟩
  iapply (copy_step m K c (ck rV r) (oOwn c r) (stS r) (q := fullShare) (total m c r) (by rw [role_st]; rfl)
    (by rw [role_st]; exact sep_mono_right (any_intro c _ _))) $$ [Hr Ho Htw]
  · isplitr; · iexact HK
    isplitl [Hr]; · iexact Hr
    isplitl [Ho] <;> iassumption
  iintro Hcw
  iapply runs_done
  isplitl [HO]; · iexact HO
  isplitl [Hp]; · iapply (any_intro c (ck pV r)); iexact Hp
  isplitl [Hx]; · iapply (any_intro c (ck xR r)); iexact Hx
  isplitl [Hz]; · iexact Hz
  isplitl [Hc] <;> iassumption

/-! ## Third pass -/

/-- What chunk `r`'s turn in the third pass takes, -/
def pre3 (r : Fin 8) : sProp 𝕄 := iprop(any c (ck pV r) ∗ (crd c (yrS r) ∗ pos c (yrS r)) ∗ tok c (ystS r) ∗ any c (oNbr c r))
/-- and what it leaves: the credit of the write. -/
def post3 (r : Fin 8) : sProp 𝕄 := iprop(any c (ck yR r) ∗ semVal (dmaC c (yrS r)) 0 ∗ crd c (ystS r))

/-- The third pass at chunk `r`. -/
theorem pass3_runs (r : Fin 8) (l : List (Fin 8)) :
    iprop(known m K ∗ debt c 0 ∗ pre3 c r) ⊢ runs c (pass3 c r) fun _ => iprop(debt c 0 ∗ post3 c r) := by
  unfold pass3 pre3 post3
  simp only [Prog.lift, Prog.bind_op, Prog.bind_ret, Prog.pure_eq_ret]
  iintro ⟨#HK, HO, Hp, ⟨Hcr, Hat⟩, Htw, Ho⟩
  iapply (wait_step m K c (yrS r) 3 (by dsimp only [lv]; rw [role_yr]) (above_zero 3) (ck rS r) (ck yR r) (by rw [role_yr]; rfl)) $$ [Hcr HO Hat]
  · isplitr; · iexact HK
    isplitl [Hcr]; · iexact Hcr
    isplitl [HO] <;> iassumption
  rw [role_yr]; unfold rolePay
  iintro ⟨HO, Hz, Hy⟩
  iapply (load_part c yR (wRect r) (fun _ => rfl)) $$ Hy; iintro Hy
  iapply (load_any c pV (wRect r) (fun _ => rfl)) $$ Hp; iintro Hp
  iapply (store_part c pV (wRect r) (fun _ => rfl)) $$ Hp; iintro Hp
  iapply (copy_step m K c (ck pV r) (oNbr c r) (ystS r) (q := fullShare) (other m c r) (by rw [role_yst]; rfl)
    (by rw [role_yst]; exact sep_mono_right (any_intro c _ _))) $$ [Hp Ho Htw]
  · isplitr; · iexact HK
    isplitl [Hp]; · iexact Hp
    isplitl [Ho] <;> iassumption
  iintro Hcw
  iapply runs_done
  isplitl [HO]; · iexact HO
  isplitl [Hy]; · iapply (any_intro c (ck yR r)); iexact Hy
  isplitl [Hz] <;> iassumption

/-! ## Last pass -/

/-- What chunk `r`'s turn in the last pass takes: the credits of the four transfers out of the chunk, -/
def pre4 (r : Fin 8) : sProp 𝕄 :=
  iprop((crd c (xsS r) ∗ pos c (xsS r)) ∗ (crd c (ysS r) ∗ pos c (ysS r)) ∗ (crd c (stS r) ∗ pos c (stS r)) ∗ crd c (ystS r) ∗ pos c (ystS r))
/-- and what it leaves: the buffers' chunks, and the result's two chunks at what was written. -/
def post4 (r : Fin 8) : sProp 𝕄 :=
  iprop((semVal (dmaC c (xsS r)) 0 ∗ semVal (dmaC c (ysS r)) 0 ∗ semVal (dmaC c (stS r)) 0 ∗ semVal (dmaC c (ystS r)) 0)
    ∗ (any c (ck pS r) ∗ any c (ck rS r) ∗ any c (ck rV r) ∗ any c (ck pV r))
    ∗ has c (oOwn c r) (total m c r) ∗ has c (oNbr c r) (other m c r))

/-- The last pass at chunk `r`. -/
theorem pass4_runs (r : Fin 8) (l : List (Fin 8)) :
    iprop(known m K ∗ debt c 0 ∗ pre4 c r) ⊢ runs c (pass4 c r) fun _ => iprop(debt c 0 ∗ post4 m c r) := by
  unfold pass4 pre4 post4
  simp only [Prog.lift, Prog.bind_op, Prog.bind_ret, Prog.pure_eq_ret]
  iintro ⟨#HK, HO, ⟨Hc1, Hp1⟩, ⟨Hc2, Hp2⟩, ⟨Hc3, Hp3⟩, Hc4, Hp4⟩
  iapply (wait_step m K c (xsS r) 0 (by dsimp only [lv]; rw [role_xs]) (above_zero 0) (ck xR r) (ck pS r) (by rw [role_xs]; rfl)) $$ [Hc1 HO Hp1]
  · isplitr; · iexact HK
    isplitl [Hc1]; · iexact Hc1
    isplitl [HO] <;> iassumption
  rw [role_xs]
  iintro ⟨HO, Hz1, HpS⟩
  iapply (wait_step m K c (ysS r) 0 (by dsimp only [lv]; rw [role_ys]) (above_zero 0) (ck yR r) (ck rS r) (by rw [role_ys]; rfl)) $$ [Hc2 HO Hp2]
  · isplitr; · iexact HK
    isplitl [Hc2]; · iexact Hc2
    isplitl [HO] <;> iassumption
  rw [role_ys]
  iintro ⟨HO, Hz2, HrS⟩
  iapply (wait_step m K c (stS r) 0 (by dsimp only [lv]; rw [role_st]) (above_zero 0) (ck rV r) (oOwn c r) (by rw [role_st]; rfl)) $$ [Hc3 HO Hp3]
  · isplitr; · iexact HK
    isplitl [Hc3]; · iexact Hc3
    isplitl [HO] <;> iassumption
  rw [role_st]
  iintro ⟨HO, Hz3, Hst⟩
  iapply (wait_step m K c (ystS r) 0 (by dsimp only [lv]; rw [role_yst]) (above_zero 0) (ck pV r) (oNbr c r) (by rw [role_yst]; rfl)) $$ [Hc4 HO Hp4]
  · isplitr; · iexact HK
    isplitl [Hc4]; · iexact Hc4
    isplitl [HO] <;> iassumption
  rw [role_yst]
  iintro ⟨HO, Hz4, Hyst⟩
  unfold rolePay
  icases Hst with ⟨Hown, HrV⟩
  icases Hyst with ⟨Hnbr, HpV⟩
  iapply runs_done
  isplitl [HO]; · iexact HO
  isplitl [Hz1 Hz2 Hz3 Hz4]
  · isplitl [Hz1]; · iexact Hz1
    isplitl [Hz2]; · iexact Hz2
    isplitl [Hz3] <;> iassumption
  isplitl [HpS HrS HrV HpV]
  · isplitl [HpS]; · iexact HpS
    isplitl [HrS]; · iexact HrS
    isplitl [HrV] <;> iassumption
  isplitl [Hown] <;> iassumption

end Cert.Summa

end
-- ==== Proof.Body.lean ====
/-
The whole body on one device: the head, then the four passes over all chunks, from what the device holds at the start to what it
holds at the end.
-/
module

public import proofs.«01_k».proof.Proof.Passes

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A holding for every chunk. -/
abbrev each (Φ : Fin 8 → sProp 𝕄) : sProp 𝕄 := bigSep Finset.univ Φ

omit [FloatOps F] in
/-- A holding for every chunk, spelt over the list of the chunks. -/
theorem each_list (Φ : Fin 8 → sProp 𝕄) : each Φ = bigSepL chunks Φ := bigSep_univ_eq_bigSepL chunks (by decide) (by decide) Φ

/-- A program run before another. -/
theorem runs_then (c : Dev nD) (p q : Prog (Eff F) PUnit) (R : sProp 𝕄) (Q : PUnit → sProp 𝕄) :
    runs c p (fun _ => R) ⊢ iprop((R -∗ runs c q Q) -∗ runs c (p >>= fun _ => q) Q) := by
  unfold runs
  rw [wp_bind]
  iintro Hp Hq
  iapply (wp_wand frame (wpE (defs₀ (F := F)) 𝒱₀ (c : Thread nD τ) none) Set.univ (Q := fun _ => R)) $$ [Hp]
  · iexact Hp
  iintro %_ HR
  iapply Hq
  iexact HR

variable (m : (ℓ : Loc nD τ sig) → Buf (Elt F) ℓ) (K : Dev nD × SemLoc sig → ℕ) (c : Dev nD)

/-- `over_runs` over all chunks. -/
theorem pass_runs (p : Fin 8 → Prog (Eff F) PUnit) (I : List (Fin 8) → sProp 𝕄) (A B : Fin 8 → sProp 𝕄)
    (h : ∀ r l, iprop(known m K ∗ I (r :: l) ∗ A r) ⊢ runs c (p r) fun _ => iprop(I l ∗ B r)) :
    iprop(known m K ∗ I chunks ∗ each A) ⊢ runs c (over p chunks) fun _ => iprop(I [] ∗ each B) := by
  rw [each_list, each_list]; exact over_runs m K c p I A B h chunks

/-! ## The head -/

/-- The tokens, positions and credits the head uses: the barrier's and the two loads'. -/
def headGhost : sProp 𝕄 :=
  iprop((dutyTok ER (barC (xDev c)) 0 true ∗ dutyTok ER (barC (yDev c)) 0 false ∗ cred (tallyAt (barC c) () 2) ∗ atPos ER (barC c) 0 ∅ 0)
    ∗ (tok c ldA ∗ pos c ldA) ∗ tok c ldB ∗ pos c ldB)

/-- The unit for the first axis's neighbour comes with this device's landing chunks for partial products, -/
theorem pays_x : (sched m).payload (barC (xDev c)) 0 true = each fun r => any c (ck xR r) := by
  refine (if_pos rfl : barPay (F := F) (xDev c) true = _).trans ?_; rw [xDev_xDev]
/-- and the unit for the second axis's neighbour with those for sums. -/
theorem pays_y : (sched m).payload (barC (yDev c)) 0 false = each fun r => any c (ck yR r) := by
  refine (if_neg Bool.false_ne_true : barPay (F := F) (yDev c) false = _).trans ?_; rw [yDev_yDev]

/-- The head: both factors loaded, and the neighbours' landing chunks in hand. -/
theorem head_runs :
    iprop(known m K ∗ debt c (oAll c) ∗ headGhost c
        ∗ (owns (c : Thread nD τ) (aHalf c) fullShare.right (aAll m c) ∗ owns (c : Thread nD τ) bH fullShare.right (bAll m c))
        ∗ (any c aV ∗ any c bV) ∗ (each fun r => any c (ck xR r)) ∗ each fun r => any c (ck yR r))
      ⊢ runs c (head c) fun _ => iprop(debt c (oX c chunks + oY c chunks) ∗ (has c aV (aAll m c) ∗ has c bV (bAll m c))
          ∗ (semVal (barC c) 0 ∗ semVal (dmaC c ldA) 0 ∗ semVal (dmaC c ldB) 0)
          ∗ (each fun r => any (xDev c) (ck xR r)) ∗ each fun r => any (yDev c) (ck yR r)) := by
  unfold head headGhost
  simp only [semSignalWord, semWaitWord, Prog.lift, Prog.bind_op, Prog.bind_ret, Prog.pure_eq_ret]
  iintro ⟨#HK, HO, ⟨⟨Htx, Hty, Hcb, Hpb⟩, ⟨Hta, Hpa⟩, Htb, HpB⟩, ⟨Ha, Hb⟩, ⟨HaV, HbV⟩, HxR, HyR⟩
  -- the two loads start
  iapply (copy_step m K c (aHalf c) aV ldA (q := fullShare.right) (aAll m c) (by rw [role_ldA]; rfl)
    (by rw [role_ldA]; unfold rolePay; iintro ⟨H, -⟩; iexact H)) $$ [Ha HaV Hta]
  · isplitr; · iexact HK
    isplitl [Ha]; · iexact Ha
    isplitl [HaV] <;> iassumption
  iintro Hca
  iapply (copy_step m K c bH bV ldB (q := fullShare.right) (bAll m c) (by rw [role_ldB]; rfl)
    (by rw [role_ldB]; unfold rolePay; iintro ⟨H, -⟩; iexact H)) $$ [Hb HbV Htb]
  · isplitr; · iexact HK
    isplitl [Hb]; · iexact Hb
    isplitl [HbV] <;> iassumption
  iintro HcB
  -- the handshake: each neighbour gets the chunks it will send into
  ihave HO := (show (debt c (oAll c) : sProp 𝕄) ⊢ iprop(∃ W, owes (c : Thread nD τ) (oAll c) W) from .rfl) $$ HO
  icases HO with ⟨%W, HO⟩
  iapply (Rounds.wp_signal 𝒱₀ ER (sched m) (c : Thread nD τ) none (dst := (xDev c : Thread nD τ)) (κ := K (xDev c, .reg barS))
      (d := true) (mem_bar m (xDev c) true) (show (1 : ℕ) = _ by decide) ()
      ((oX c chunks + oY c chunks) + tallyAt (barC (yDev c)) () 1) rfl) $$ [HO Htx HxR]
  · isplitr; · iapply (known_inv m K (xDev c, .reg barS)); iexact HK
    isplitl [HO]; · iexact HO
    isplitl [Htx]; · iexact Htx
    isplitl [HxR]
    · iapply (Entails.of_eq (pays_x m c).symm); iexact HxR
    iapply (known_reached m K (xDev c, .reg barS)); iexact HK
  iintro HO
  iapply (Rounds.wp_signal 𝒱₀ ER (sched m) (c : Thread nD τ) none (dst := (yDev c : Thread nD τ)) (κ := K (yDev c, .reg barS))
      (d := false) (mem_bar m (yDev c) false) (show (1 : ℕ) = _ by decide) () (oX c chunks + oY c chunks) rfl) $$ [HO Hty HyR]
  · isplitr; · iapply (known_inv m K (yDev c, .reg barS)); iexact HK
    isplitl [HO]; · iexact HO
    isplitl [Hty]; · iexact Hty
    isplitl [HyR]
    · iapply (Entails.of_eq (pays_y m c).symm); iexact HyR
    iapply (known_reached m K (yDev c, .reg barS)); iexact HK
  iintro HO
  iapply (Rounds.wp_wait_rest_token 𝒱₀ ER (sched m) (c : Thread nD τ) none (κ := K (c, .reg barS))
      (wpE_semWait_eq 𝒱₀ (c : Thread nD τ) none Set.univ) (Set.mem_univ _) () (O := oX c chunks + oY c chunks) (W := W) (R := 0) (m := 0) (T := ∅)
      (by rw [expect_bar]; decide)) $$ [Hcb HO Hpb]
  · isplitr; · iapply (known_inv m K (c, .reg barS)); iexact HK
    isplitl [Hcb]; · iexact Hcb
    isplitl [HO]; · iexact HO
    isplitr
    · iapply (mayWait c (.reg barS) 1 (le_refl 1) (above_receipts c chunks chunks)); iapply (known_levels m K); iexact HK
    iexact Hpb
  iintro ⟨HO, Hpb, -, Hpay⟩
  ihave Hpay' := (Entails.of_eq (rest_bar m c)) $$ Hpay
  icases Hpay' with ⟨HX, HY⟩
  imod (Rounds.cell_close ER (sched m) (g := barC c) (Set.mem_univ (K (c, .reg barS))) (fun h => h) (R := 0 + 1) (duties_after m (barC c))) $$ [Hpb] with Hz
  · isplitr; · iapply (known_inv m K (c, .reg barS)); iexact HK
    iexact Hpb
  -- the two loads end
  iapply (wait_step m K c ldA 0 (by dsimp only [lv]; rw [role_ldA]) ((above_receipts c chunks chunks).mono (by decide)) (aHalf c) aV
    (by rw [role_ldA]; rfl)) $$ [Hca HO Hpa]
  · isplitr; · iexact HK
    isplitl [Hca]; · iexact Hca
    isplitl [HO]; · unfold debt; iexists _; iexact HO
    iexact Hpa
  rw [role_ldA]
  iintro ⟨HO, Hz1, HaV⟩
  iapply (wait_step m K c ldB 0 (by dsimp only [lv]; rw [role_ldB]) ((above_receipts c chunks chunks).mono (by decide)) bH bV
    (by rw [role_ldB]; rfl)) $$ [HcB HO HpB]
  · isplitr; · iexact HK
    isplitl [HcB]; · iexact HcB
    isplitl [HO] <;> iassumption
  rw [role_ldB]
  iintro ⟨HO, Hz2, HbV⟩
  unfold rolePay
  iapply runs_done
  isplitl [HO]; · iexact HO
  isplitl [HaV HbV]; · isplitl [HaV] <;> iassumption
  isplitl [Hz Hz1 Hz2]
  · isplitl [Hz]; · iexact Hz
    isplitl [Hz1] <;> iassumption
  isplitl [HX]
  · iapply (show (barPay c true : sProp 𝕄) ⊢ each fun r => any (xDev c) (ck xR r) from Entails.of_eq (if_pos rfl)); iexact HX
  · iapply (show (barPay c false : sProp 𝕄) ⊢ each fun r => any (yDev c) (ck yR r) from Entails.of_eq (if_neg Bool.false_ne_true)); iexact HY

/-! ## The body -/

/-- The duty tokens device `c` pays with at chunk `r`, -/
def chunkToks (r : Fin 8) : sProp 𝕄 :=
  iprop(tok c (xsS r) ∗ tok (xDev c) (xrS r) ∗ tok c (ysS r) ∗ tok (yDev c) (yrS r) ∗ tok c (stS r) ∗ tok c (ystS r))
/-- its positions at the chunk's cells, -/
def chunkPos (r : Fin 8) : sProp 𝕄 :=
  iprop(pos c (xsS r) ∗ pos c (xrS r) ∗ pos c (ysS r) ∗ pos c (yrS r) ∗ pos c (stS r) ∗ pos c (ystS r))
/-- and the credits of the two receipts. -/
def chunkCrd (r : Fin 8) : sProp 𝕄 := iprop(crd c (xrS r) ∗ crd c (yrS r))
/-- The chunk's semaphores at zero. -/
def chunkZero (r : Fin 8) : sProp 𝕄 :=
  iprop(semVal (dmaC c (xsS r)) 0 ∗ semVal (dmaC c (xrS r)) 0 ∗ semVal (dmaC c (ysS r)) 0 ∗ semVal (dmaC c (yrS r)) 0
    ∗ semVal (dmaC c (stS r)) 0 ∗ semVal (dmaC c (ystS r)) 0)

/-- The scratch buffers, the six worked on by chunks as their chunks, at any contents. -/
def scratch : sProp 𝕄 :=
  iprop((any c aV ∗ any c bV) ∗ (each fun r => any c (ck pV r)) ∗ (each fun r => any c (ck pS r)) ∗ (each fun r => any c (ck xR r))
    ∗ (each fun r => any c (ck rV r)) ∗ (each fun r => any c (ck rS r)) ∗ each fun r => any c (ck yR r))

/-- The semaphores of device `c` at zero. -/
def zeros : sProp 𝕄 :=
  iprop((semVal (barC c) 0 ∗ semVal (dmaC c ldA) 0 ∗ semVal (dmaC c ldB) 0) ∗ each (chunkZero c))

/-- The body of device `c`, from its share of the protocol, its factors, its scratch and its result array at any contents, to the
    result array at the sums. -/
theorem body_runs :
    iprop(known m K ∗ debt c (oAll c) ∗ (headGhost c ∗ each (chunkToks c) ∗ each (chunkPos c) ∗ each (chunkCrd c))
        ∗ (owns (c : Thread nD τ) (aHalf c) fullShare.right (aAll m c) ∗ owns (c : Thread nD τ) bH fullShare.right (bAll m c))
        ∗ scratch c ∗ (each fun r => any c (oOwn c r)) ∗ each fun r => any c (oNbr c r))
      ⊢ runs c prog fun _ => iprop(debt c 0 ∗ zeros c ∗ scratch c
          ∗ (each fun r => has c (oOwn c r) (total m c r)) ∗ each fun r => has c (oNbr c r) (other m c r)) := by
  unfold prog
  simp only [Prog.lift, Prog.bind_op, Prog.bind_ret]
  unfold runs
  rw [wp_deviceId]
  unfold scratch chunkToks chunkPos chunkCrd zeros chunkZero each
  simp only [bigSep_sep']
  iintro ⟨#HK, HO, ⟨Hg, ⟨T1, T2, T3, T4, T5, T6⟩, ⟨P1, P2, P3, P4, P5, P6⟩, C1, C2⟩, Hab, ⟨HabV, BpV, BpS, BxR, BrV, BrS, ByR⟩, Oo, On⟩
  iapply (runs_then c (head c)) $$ [HO Hg Hab HabV BxR ByR]
  · iapply (head_runs m K c)
    isplitr; · iexact HK
    isplitl [HO]; · iexact HO
    isplitl [Hg]; · iexact Hg
    isplitl [Hab]; · iexact Hab
    isplitl [HabV]; · iexact HabV
    isplitl [BxR] <;> iassumption
  iintro ⟨HO, ⟨HaV, HbV⟩, Hz, BxR, ByR⟩
  iapply (runs_then c (over (pass1 c) chunks)) $$ [HO HaV HbV BpV BpS BxR T1 T2]
  · iapply (pass_runs m K c (pass1 c) (inv1 m c) (pre1 c) (post1 m c) (pass1_runs m K c))
    isplitr; · iexact HK
    isplitl [HO HaV HbV]
    · unfold inv1
      isplitl [HO]; · iexact HO
      isplitl [HaV] <;> iassumption
    unfold pre1 each; simp only [bigSep_sep']
    isplitl [BpV]; · iexact BpV
    isplitl [BpS]; · iexact BpS
    isplitl [BxR]; · iexact BxR
    isplitl [T1] <;> iassumption
  unfold inv1 post1 each; simp only [bigSep_sep']
  iintro ⟨⟨HO, HaV, HbV⟩, BpV, S1⟩
  ihave HO := (show (debt c (oX c [] + oY c chunks) : sProp 𝕄) ⊢ debt c (oY c chunks) from Entails.of_eq (congrArg (debt c) (zero_add _))) $$ HO
  iapply (runs_then c (over (pass2 c) chunks)) $$ [HO BpV C1 P2 BrV BrS ByR T3 T4 T5 Oo]
  · iapply (pass_runs m K c (pass2 c) (fun l => debt c (oY c l)) (pre2 m c) (post2 c) (pass2_runs m K c))
    isplitr; · iexact HK
    isplitl [HO]; · iexact HO
    unfold pre2 each; simp only [bigSep_sep']
    isplitl [BpV]; · iexact BpV
    isplitl [C1 P2]; · isplitl [C1] <;> iassumption
    isplitl [BrV]; · iexact BrV
    isplitl [BrS]; · iexact BrS
    isplitl [ByR]; · iexact ByR
    isplitl [T3]; · iexact T3
    isplitl [T4]; · iexact T4
    isplitl [T5] <;> iassumption
  unfold post2 each; simp only [bigSep_sep']
  iintro ⟨HO, BpV, BxR, Z2, S3, S5⟩
  iapply (runs_then c (over (pass3 c) chunks)) $$ [HO BpV C2 P4 T6 On]
  · iapply (pass_runs m K c (pass3 c) (fun _ => debt c 0) (pre3 c) (post3 c) (pass3_runs m K c))
    isplitr; · iexact HK
    isplitl [HO]; · iexact HO
    unfold pre3 each; simp only [bigSep_sep']
    isplitl [BpV]; · iexact BpV
    isplitl [C2 P4]; · isplitl [C2] <;> iassumption
    isplitl [T6] <;> iassumption
  unfold post3 each; simp only [bigSep_sep']
  iintro ⟨HO, ByR, Z4, S6⟩
  iapply (wp_wand frame (wpE (defs₀ (F := F)) 𝒱₀ (c : Thread nD τ) none) Set.univ (Q := fun _ => iprop(debt c 0 ∗ each (post4 m c))))
    $$ [HO S1 S3 S5 S6 P1 P3 P5 P6]
  · iapply (pass_runs m K c (pass4 c) (fun _ => debt c 0) (pre4 c) (post4 m c) (pass4_runs m K c))
    isplitr; · iexact HK
    isplitl [HO]; · iexact HO
    unfold pre4 each; simp only [bigSep_sep']
    isplitl [S1 P1]; · isplitl [S1] <;> iassumption
    isplitl [S3 P3]; · isplitl [S3] <;> iassumption
    isplitl [S5 P5]; · isplitl [S5] <;> iassumption
    isplitl [S6] <;> iassumption
  unfold post4 each; simp only [bigSep_sep']
  iintro %_ ⟨HO, ⟨Z1, Z3, Z5, Z6⟩, ⟨BpS, BrS, BrV, BpV⟩, Oo, On⟩
  isplitl [HO]; · iexact HO
  isplitl [Hz Z1 Z2 Z3 Z4 Z5 Z6]
  · isplitl [Hz]; · iexact Hz
    isplitl [Z1]; · iexact Z1
    isplitl [Z2]; · iexact Z2
    isplitl [Z3]; · iexact Z3
    isplitl [Z4]; · iexact Z4
    isplitl [Z5] <;> iassumption
  isplitl [HaV HbV BpV BpS BxR BrV BrS ByR]
  · isplitl [HaV HbV]
    · isplitl [HaV]
      · iapply (any_intro c aV); iexact HaV
      · iapply (any_intro c bV); iexact HbV
    isplitl [BpV]; · iexact BpV
    isplitl [BpS]; · iexact BpS
    isplitl [BxR]; · iexact BxR
    isplitl [BrV]; · iexact BrV
    isplitl [BrS] <;> iassumption
  isplitl [Oo] <;> iassumption

end Cert.Summa

end
-- ==== Proof.Geometry.lean ====
/-
How the chunks lie in their buffers: each family of chunks cuts its buffer into disjoint blocks of 96 whole rows that cover it. So a
buffer can be held chunk by chunk, and chunks held separately make up the buffer again.
-/
module

public import proofs.«01_k».proof.Proof.Body

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of row blocks -/

/-- The rectangles `r` cut the shape into blocks: no two meet, and every element lies in one. -/
structure Cuts {sh : Shape} {T : Type} [Fintype T] [DecidableEq T] (r : T → Rect sh) : Prop where
  apart : ∀ t t', t ≠ t' → Disjoint (r t).set (r t').set
  all : Finset.univ.biUnion (fun t => (r t).set) = Finset.univ

/-- Blocks of 96 whole rows whose first rows are 96 apart, one for every row, cut the shape. -/
theorem cuts_rows {n : ℕ} {T : Type} [Fintype T] [DecidableEq T] (r : T → Rect ⟨2, ![n, 1536]⟩) (start : T → ℕ)
    (hoff : ∀ t, (r t).off = ![start t, 0]) (hsize : ∀ t, (r t).size = ![96, 1536]) (hstride : ∀ t a, (r t).stride a = 1)
    (hapart : ∀ t t', t ≠ t' → start t + 96 ≤ start t' ∨ start t' + 96 ≤ start t)
    (hall : ∀ i, i < n → ∃ t, start t ≤ i ∧ i < start t + 96) : Cuts r where
  apart t t' h := by
    refine Rect.disjoint_of_axis _ _ 0 fun j hj j' hj' => ?_
    rw [hsize] at hj hj'
    rw [hoff, hoff, hstride, hstride]
    have hj : j < 96 := hj
    have hj' : j' < 96 := hj'
    have h' := hapart t t' h
    show start t + 1 * j ≠ start t' + 1 * j'
    omega
  all := by
    ext i
    refine ⟨fun _ => Finset.mem_univ _, fun _ => ?_⟩
    obtain ⟨t, h1, h2⟩ := hall (i 0).val (i 0).isLt
    refine Finset.mem_biUnion.mpr ⟨t, Finset.mem_univ _, (LoadRect.mem_set _).mpr fun a => ?_⟩
    rw [hoff, hsize, hstride]
    fin_cases a
    · refine ⟨(i 0).val - start t, ?_, ?_⟩
      · show (i 0).val - start t < 96
        omega
      · show (i 0).val = start t + 1 * ((i 0).val - start t)
        omega
    · refine ⟨(i 1).val, (i 1).isLt, ?_⟩
      show (i 1).val = 0 + 1 * (i 1).val
      omega

section Glue

variable {sh : Shape} {T : Type} [Fintype T] [DecidableEq T] {r : T → Rect sh} (hr : Cuts r) {α : Type}

include hr in
/-- Every element is some element of some block. -/
theorem Cuts.found (i : sh.Idx) : ∃ p : (t : T) × (r t).shape.Idx, (r p.1).emb p.2 = i := by
  have h : i ∈ Finset.univ.biUnion (fun t => (r t).set) := by rw [hr.all]; exact Finset.mem_univ i
  obtain ⟨t, -, ht⟩ := Finset.mem_biUnion.mp h
  obtain ⟨j, hj⟩ := LoadRect.exists_idx_of_mem _ ht
  exact ⟨⟨t, j⟩, hj⟩

/-- The contents that agree with `X t` on every block `t`. -/
def Cuts.glue (X : (t : T) → (r t).shape.Idx → α) (i : sh.Idx) : α := X (hr.found i).choose.1 (hr.found i).choose.2

/-- On block `t` the glued contents are `X t`. -/
theorem Cuts.glue_emb (X : (t : T) → (r t).shape.Idx → α) (t : T) (j : (r t).shape.Idx) : hr.glue X ((r t).emb j) = X t j := by
  unfold Cuts.glue
  generalize hp : (hr.found ((r t).emb j)).choose = p
  have h : (r p.1).emb p.2 = (r t).emb j := by rw [← hp]; exact (hr.found ((r t).emb j)).choose_spec
  obtain ⟨t', j'⟩ := p
  have ht : t' = t := by
    by_contra hne
    exact (Finset.disjoint_left.mp (hr.apart t' t hne)) (LoadRect.idx_mem _ j') (by rw [show (r t').toLoadRect.idx j' = (r t).toLoadRect.idx j from h]; exact LoadRect.idx_mem _ j)
  subst ht
  exact congrArg (X t') ((r t').emb.injective h)

end Glue

/-! ## Holding a memref by its blocks -/

section Held

variable {sp : Space} {sh : Shape} {e : EltTy} {T : Type} [Fintype T] [DecidableEq T] {r : T → Rect sh}

omit [FloatOps F] in
/-- A memref held at any contents is held block by block. -/
theorem any_cut (hr : Cuts r) (c : Dev nD) (w : Memref sig .tc sp sh e) (h1 : ∀ t a, (r t).stride a = 1) :
    (any c w : sProp 𝕄) ⊢ bigSep Finset.univ fun t => any c (w.slice (r t) (h1 t)) := by
  refine (show (any c w : sProp 𝕄) ⊢ iprop(∃ X, has c w X) from .rfl).trans (exists_elim fun X => ?_)
  exact (owns_rects (c : Thread nD τ) w fullShare r h1 hr.apart hr.all X).trans (bigSep_mono fun t _ => any_intro c _ _)

/-- Blocks held at their contents make up the memref at the contents glued from them. -/
theorem has_join (hr : Cuts r) (c : Dev nD) (w : Memref sig .tc sp sh e) (h1 : ∀ t a, (r t).stride a = 1)
    (X : (t : T) → (r t).shape.Idx → Elt F e) :
    (bigSep Finset.univ fun t => (has c (w.slice (r t) (h1 t)) (X t) : sProp 𝕄)) ⊢ has c w (hr.glue X) := by
  refine (Entails.of_eq (bigSep_congr fun t _ => ?_)).trans (owns_of_rects (c : Thread nD τ) w fullShare r h1 hr.apart hr.all (hr.glue X))
  rw [show (fun j => hr.glue X ((r t).emb j)) = X t from funext fun j => hr.glue_emb X t j]

/-- Blocks held at any contents make up the memref at some contents. -/
theorem any_join (hr : Cuts r) (c : Dev nD) (w : Memref sig .tc sp sh e) (h1 : ∀ t a, (r t).stride a = 1) :
    (bigSep Finset.univ fun t => (any c (w.slice (r t) (h1 t)) : sProp 𝕄)) ⊢ any c w := by
  unfold any
  refine (BI.bigSep_exists_pi Finset.univ fun (t : T) (X : (r t).shape.Idx → Elt F e) => (has c (w.slice (r t) (h1 t)) X : sProp 𝕄)).trans
    (exists_elim fun X => (has_join hr c w h1 X).trans (any_intro c w _))

end Held

/-! ## The chunks of the kernel's buffers -/

/-- The chunks of a 768-row buffer cut it. -/
theorem cuts_w : Cuts wRect :=
  cuts_rows wRect (fun r => 96 * r.val) (fun _ => rfl) (fun _ => rfl) (fun _ _ => rfl)
    (fun t t' h => by have := Fin.val_ne_of_ne h; omega) (fun i hi => ⟨⟨i / 96, by omega⟩, by dsimp only; omega⟩)

/-- The chunks of the result on device `c`: those it sums itself, and those it receives. -/
def outRect (c : Dev nD) : Bool × Fin 8 → Rect S1536x1536
  | (true, r) => oRect c r
  | (false, r) => nRect c r

/-- The first row of such a chunk. -/
def outStart (c : Dev nD) : Bool × Fin 8 → ℕ
  | (true, r) => 768 * (c.val % 2) + 96 * r.val
  | (false, r) => (96 * r.val + 768) - 768 * (c.val % 2)

/-- A chunk of the result starts at its first row and at column 0. -/
theorem out_off (c : Dev nD) (t : Bool × Fin 8) : (outRect c t).off = ![outStart c t, 0] := by
  obtain ⟨b, r⟩ := t
  cases b
  · exact k0_off3_eq c r
  · exact k0_off2_eq c r
/-- It is 96 whole rows. -/
theorem out_size (c : Dev nD) (t : Bool × Fin 8) : (outRect c t).size = ![96, 1536] := by
  obtain ⟨b, r⟩ := t; cases b <;> rfl
/-- It skips no row and no column. -/
theorem out_stride (c : Dev nD) (t : Bool × Fin 8) (a : Fin 2) : (outRect c t).stride a = 1 := by
  obtain ⟨b, r⟩ := t; cases b <;> rfl

/-- The chunks of the result cut it. -/
theorem cuts_out (c : Dev nD) : Cuts (outRect c) := by
  have hc : c.val % 2 < 2 := Nat.mod_lt _ (by decide)
  refine cuts_rows (outRect c) (outStart c) (out_off c) (out_size c) (out_stride c) ?_ ?_
  · rintro ⟨b, r⟩ ⟨b', r'⟩ h
    have hr : b = b' → r.val ≠ r'.val := fun hb hv => h (by rw [hb, Fin.ext hv])
    cases b <;> cases b' <;> simp only [outStart] <;> simp at hr <;> omega
  · intro i hi
    by_cases h : 768 * (c.val % 2) ≤ i ∧ i < 768 * (c.val % 2) + 768
    · exact ⟨(true, ⟨(i - 768 * (c.val % 2)) / 96, by omega⟩), by simp only [outStart]; omega⟩
    · exact ⟨(false, ⟨(i - (768 - 768 * (c.val % 2))) / 96, by omega⟩), by simp only [outStart]; omega⟩

/-! ## Whole buffers -/

omit [FloatOps F] in
/-- A whole buffer at any contents. -/
theorem any_whole (c : Dev nD) (b : Ref sig .tc) :
    (any c (Memref.whole b) : sProp 𝕄) = iprop(∃ f : Buf (Elt F) ((c : Thread nD τ).loc b), ((c : Thread nD τ).loc b) ↦{fullShare} f) := by
  unfold any has
  refine congrArg BIBase.exists (funext fun X => ?_)
  exact owns_whole (c : Thread nD τ) b fullShare X

/-- Eight chunks of a buffer at any contents, and the buffer at any contents. -/
theorem chunks_any (c : Dev nD) {e : EltTy} (w : Memref sig .tc .vmem S768x1536 e) : (any c w : sProp 𝕄) ⊣⊢ each fun r => any c (ck w r) :=
  ⟨any_cut cuts_w c w fun _ _ => rfl, any_join cuts_w c w fun _ _ => rfl⟩

/-- The scratch buffers, whole and worked on by chunks. -/
theorem scratch_whole (c : Dev nD) :
    (Pipeline.scopedRest (Ix := Unit) (Name := ℕ) (U := UU) (Lvl := ℕ) (Val := Elt F) cfg0.spec c : sProp 𝕄) ⊣⊢ scratch c := by
  rw [scopedRest0_eq]
  simp only [← any_whole]
  unfold scratch
  constructor
  · iintro ⟨H0, H1, H2, H3, H4, H5, H6, H7⟩
    isplitl [H0 H1]; · isplitl [H0] <;> iassumption
    isplitl [H2]; · iapply (chunks_any c pV).1; iexact H2
    isplitl [H3]; · iapply (chunks_any c pS).1; iexact H3
    isplitl [H4]; · iapply (chunks_any c xR).1; iexact H4
    isplitl [H5]; · iapply (chunks_any c rV).1; iexact H5
    isplitl [H6]; · iapply (chunks_any c rS).1; iexact H6
    iapply (chunks_any c yR).1; iexact H7
  · iintro ⟨⟨H0, H1⟩, H2, H3, H4, H5, H6, H7⟩
    isplitl [H0]; · iexact H0
    isplitl [H1]; · iexact H1
    isplitl [H2]; · iapply (chunks_any c pV).2; iexact H2
    isplitl [H3]; · iapply (chunks_any c pS).2; iexact H3
    isplitl [H4]; · iapply (chunks_any c xR).2; iexact H4
    isplitl [H5]; · iapply (chunks_any c rV).2; iexact H5
    isplitl [H6]; · iapply (chunks_any c rS).2; iexact H6
    iapply (chunks_any c yR).2; iexact H7

/-! ## The result array -/

section Result

variable (m : (ℓ : Loc nD τ sig) → Buf (Elt F) ℓ)

/-- What chunk `t` of the result holds in the end. -/
def outPart (c : Dev nD) : (t : Bool × Fin 8) → (outRect c t).shape.Idx → Elt F .f32
  | (true, r) => total m c r
  | (false, r) => other m c r

/-- What the result array of device `c` holds in the end. -/
def outAll (c : Dev nD) : Vec F S1536x1536 .f32 := (cuts_out c).glue (outPart m c)

/-- A holding for every chunk of the result, the two halves apart. -/
theorem halves (Φ : Bool × Fin 8 → sProp 𝕄) : bigSep Finset.univ Φ = iprop((each fun r => Φ (true, r)) ∗ each fun r => Φ (false, r)) := by
  rw [bigSep_univ_prod, bigSep_univ_eq_bigSepL [true, false] (by decide) (by decide)]; rfl

/-- The result array, held chunk by chunk. -/
theorem out_cut (c : Dev nD) (f : Buf (Elt F) ((c : Thread nD τ).loc main_v1)) :
    (((c : Thread nD τ).loc main_v1) ↦{fullShare} f : sProp 𝕄) ⊢ iprop((each fun r => any c (oOwn c r)) ∗ each fun r => any c (oNbr c r)) := by
  refine (show _ ⊢ (any c oH : sProp 𝕄) from ?_).trans ((any_cut (cuts_out c) c oH (out_stride c)).trans (Entails.of_eq (halves _)))
  rw [any_whole]; iintro H; iexists f; iexact H

/-- The chunks of the result, written, are the array at its final contents. -/
theorem out_join (c : Dev nD) :
    (iprop((each fun r => has c (oOwn c r) (total m c r)) ∗ each fun r => has c (oNbr c r) (other m c r)) : sProp 𝕄)
      ⊢ ((c : Thread nD τ).loc main_v1) ↦{fullShare} outAll m c := by
  rw [← owns_whole (c : Thread nD τ) main_v1 fullShare]
  exact (Entails.of_eq (halves fun t => has c (oH.slice (outRect c t) (out_stride c t)) (outPart m c t)).symm).trans
    (has_join (cuts_out c) c oH (out_stride c) (outPart m c))

/-! ## The factors -/

/-- The right share of the left factor's columns holds the row half the device multiplies. -/
theorem left_half (c : Dev nD) :
    (((c : Thread nD τ).loc main_arg0) ↦{fullShare.right} m ((c : Thread nD τ).loc main_arg0) : sProp 𝕄)
      ⊢ owns (c : Thread nD τ) (aHalf c) fullShare.right (aAll m c) := by
  refine (pointsTo_split_subset (I := (aHalf c).view.set) (Finset.subset_univ _)).1.trans ?_
  iintro ⟨H, -⟩
  iapply (owns_intro (c : Thread nD τ) (aHalf c) fullShare.right (m ((c : Thread nD τ).loc main_arg0)))
  iexact H

/-- The right share of the right factor's rows. -/
theorem right_rows (c : Dev nD) :
    (((c : Thread nD τ).loc main_arg1) ↦{fullShare.right} m ((c : Thread nD τ).loc main_arg1) : sProp 𝕄)
      ⊢ owns (c : Thread nD τ) bH fullShare.right (bAll m c) :=
  Entails.of_eq (owns_whole (c : Thread nD τ) main_arg1 fullShare.right _).symm

end Result

end Cert.Summa

end
-- ==== Proof.Ghost.lean ====
/-
What the launch deals the devices: the cells and their tokens, each device's share of them, and the credits for what it will be
sent.
-/
module

public import proofs.«01_k».proof.Proof.Geometry

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of a device -/

/-- The kernel's own semaphores: the transfer semaphores. -/
abbrev osem : DmaSem sig → SemLoc sig := SemLoc.dma

set_option maxRecDepth 8000 in
/-- The transfer semaphores are the kernel's own: distinct, and none a pipeline's. -/
theorem ownSemFacts : Pipeline.OwnSemFacts cfg0.spec osem := by decide

/-- Distinct transfer semaphores are distinct among all semaphores. -/
theorem dma_injective : Function.Injective (SemLoc.dma : DmaSem sig → SemLoc sig) := fun s s' h => by injection h

/-- Every semaphore but the barrier's is a transfer semaphore. -/
theorem others_dma : (Finset.univ : Finset (SemLoc sig)).erase (.reg barS) = Finset.univ.map ⟨SemLoc.dma, dma_injective⟩ := by
  ext s
  obtain s | s := s
  · have hs : s = barS := by revert s; decide
    subst hs
    simp
  · simp

omit [FloatOps F] in
/-- A holding for every semaphore: the barrier's, and the transfer semaphores'. -/
theorem split_sems (Φ : SemLoc sig → sProp 𝕄) : bigSep Finset.univ Φ = iprop(Φ (.reg barS) ∗ bigSep Finset.univ fun s : DmaSem sig => Φ (.dma s)) := by
  rw [bigSep_univ_at Φ (.reg barS), others_dma, bigSep_map]; rfl

omit [FloatOps F] in
/-- A holding for the semaphores `f r` of the listed chunks, chunk by chunk. -/
theorem list_each (f : Fin 8 → DmaSem sig) (Φ : DmaSem sig → sProp 𝕄) : bigSepL (chunks.map f) Φ = each fun r => Φ (f r) := by
  rw [each_list]; exact bigSepL_map f chunks Φ

/-- The transfer semaphores listed by role. -/
def dmaList : List (DmaSem sig) :=
  ldA :: ldB :: (chunks.map xsS ++ (chunks.map xrS ++ (chunks.map ysS ++ (chunks.map yrS ++ (chunks.map stS ++ chunks.map ystS)))))

set_option maxRecDepth 8000 in
/-- The list names no semaphore twice. -/
theorem dmaList_nodup : dmaList.Nodup := by decide +kernel
set_option maxRecDepth 8000 in
/-- The list names every transfer semaphore. -/
theorem dmaList_all : ∀ s : DmaSem sig, s ∈ dmaList := by decide +kernel

omit [FloatOps F] in
/-- A holding for every transfer semaphore: the two loads', and chunk by chunk the six others'. -/
theorem split_dma (Φ : DmaSem sig → sProp 𝕄) :
    bigSep Finset.univ Φ = iprop(Φ ldA ∗ Φ ldB ∗ each fun r =>
      iprop(Φ (xsS r) ∗ Φ (xrS r) ∗ Φ (ysS r) ∗ Φ (yrS r) ∗ Φ (stS r) ∗ Φ (ystS r))) := by
  have hl : (Finset.univ : Finset (DmaSem sig)) = dmaList.toFinset := by ext s; simp [dmaList_all s]
  rw [bigSep_eq_bigSepL_of_eq dmaList hl dmaList_nodup]
  unfold dmaList
  rw [bigSepL_cons', bigSepL_cons', bigSepL_append, bigSepL_append, bigSepL_append, bigSepL_append, bigSepL_append]
  simp only [list_each, bigSep_sep']

/-! ## The cells and the tokens -/

/-- Different semaphores or different devices have different cells. -/
theorem cellAt_injective : Function.Injective (cellAt : Dev nD × SemLoc sig → GSem nD τ sig) := by
  rintro ⟨c, s⟩ ⟨c', s'⟩ h
  have h1 : c = c' := congrArg (fun g : GSem nD τ sig => g.1.1) h
  have h2 : s = s' := congrArg Prod.snd h
  rw [h1, h2]

/-- Every cell. -/
def allCells : Finset (GSem nD τ sig) := Finset.univ.map ⟨cellAt, cellAt_injective⟩

/-- A duty of a cell's one round. -/
abbrev dutyAt (p : Dev nD × SemLoc sig × Bool) : GSem nD τ sig × ℕ × Bool := (cellAt (p.1, p.2.1), 0, p.2.2)

/-- Different duties have different names. -/
theorem dutyAt_injective : Function.Injective dutyAt := by
  rintro ⟨c, s, b⟩ ⟨c', s', b'⟩ h
  have h1 := cellAt_injective (congrArg Prod.fst h)
  have h2 : b = b' := congrArg (fun x => x.2.2) h
  obtain ⟨hc, hs⟩ := Prod.mk.inj h1
  have hc : c = c' := hc
  have hs : s = s' := hs
  rw [hc, hs, h2]

/-- A token for every duty. -/
def allToks : Finset (GSem nD τ sig × ℕ × Bool) := Finset.univ.map ⟨dutyAt, dutyAt_injective⟩

/-- The ghost state the launch starts from: the loop's, and the protocol's. -/
def u₀ : UU := (initOf (Pipeline.cells cfgs cellOf_inj) (Pipeline.launchToks cfgs cellOf_inj), initOf allCells allToks)

section Deal

variable (m : (ℓ : Loc nD τ sig) → Buf (Elt F) ℓ)

/-- The tokens of the duties of device `c`'s own cells. -/
def minted (c : Dev nD) : sProp 𝕄 :=
  bigSep Finset.univ fun p : SemLoc sig × Bool => dutyTok ER (cellAt (c, p.1)) 0 p.2

/-- What the launch deals device `c` before the cells are set up. -/
def dealt (c : Dev nD) : sProp 𝕄 :=
  iprop((bigSep Finset.univ fun s : SemLoc sig => roundState ER (sched m) (cellAt (c, s)) 0)
    ∗ (bigSep Finset.univ fun s : SemLoc sig => iprop(atPos ER (cellAt (c, s)) 0 ∅ 0 ∗ reached ER (cellAt (c, s)) 0)) ∗ minted c)

/-- The protocol's ghost state is what every device is dealt. -/
theorem fund_all : BI.own (ER (initOf allCells allToks)) ⊢ (|==> bigSep Finset.univ (dealt m) : sProp 𝕄) := by
  have hX (Φ : GSem nD τ sig → sProp 𝕄) :
      bigSep allCells Φ = bigSep Finset.univ fun c : Dev nD => bigSep Finset.univ fun s : SemLoc sig => Φ (cellAt (c, s)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks minted; rw [bigSep_map, bigSep_univ_prod]; rfl
  iintro H
  imod (Rounds.fund ER (sched m) allCells allToks) $$ H with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The cells set up -/

omit [FloatOps F] in
/-- The barrier's semaphore is the only one that outlives the kernel. -/
theorem unscopedSems_bar (c : Dev nD) : (unscopedSems0 c : sProp 𝕄) = semVal (barC c) 0 := by
  unfold unscopedSems0; rw [bigSep_eq_bigSepL_of_eq [SemLoc.reg barS] (by decide) (by decide)]; rfl

omit [FloatOps F] in
/-- The semaphores of a device at zero, one by one. -/
theorem sems_each (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun s : SemLoc sig => semVal (cellAt (c, s)) 0 := by
  rw [split_sems, unscopedSems_bar]
  iintro ⟨HO, HB⟩
  isplitl [HB]; · iexact HB
  iapply (show (Pipeline.ownSems0 (Ix := Unit) (Name := ℕ) (U := UU) (Lvl := ℕ) (Val := Elt F) (τ := τ) osem c : sProp 𝕄)
    ⊢ bigSep Finset.univ fun s : DmaSem sig => semVal (cellAt (c, .dma s)) 0 from .rfl)
  iexact HO

/-- The cells of one device set up. -/
theorem cells_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun s : SemLoc sig => iprop(∃ κ : ℕ, cellInv ER (sched m) κ (cellAt (c, s))))
          ∗ (bigSep Finset.univ fun s : SemLoc sig => iprop(atPos ER (cellAt (c, s)) 0 ∅ 0 ∗ reached ER (cellAt (c, s)) 0)) ∗ minted c) := by
  unfold dealt
  iintro ⟨Hos, Hus, Hst, Hat, Htok⟩
  ihave Hv := (sems_each (F := F) c) $$ [Hos Hus]
  · isplitl [Hos] <;> iassumption
  imod (show iprop((bigSep Finset.univ fun s : SemLoc sig => semVal (cellAt (c, s)) 0) ∗ bigSep Finset.univ fun s : SemLoc sig => roundState ER (sched m) (cellAt (c, s)) 0)
      ⊢ (|={Set.univ}=> bigSep Finset.univ fun s : SemLoc sig => iprop(∃ κ : ℕ, cellInv ER (sched m) κ (cellAt (c, s))) : sProp 𝕄) from by
        rw [← bigSep_sep']
        exact (bigSep_mono fun s _ => (Rounds.body_intro ER (sched m) (cellAt (c, s))).trans inv_alloc).trans (bigSep_fupd _ _)) $$ [Hv Hst] with Hinv
  · isplitl [Hv] <;> iassumption
  imodintro
  isplitl [Hinv]; · iexact Hinv
  isplitl [Hat]; · iexact Hat
  iexact Htok

/-! ## Each device's share -/

/-- The tokens of the duties device `c` pays. -/
def payToks (c : Dev nD) : sProp 𝕄 :=
  iprop((dutyTok ER (barC (xDev c)) 0 true ∗ dutyTok ER (barC (yDev c)) 0 false ∗ tok c ldA ∗ tok c ldB) ∗ each (chunkToks c))
/-- Its positions at its own cells. -/
def positions (c : Dev nD) : sProp 𝕄 := iprop((atPos ER (barC c) 0 ∅ 0 ∗ pos c ldA ∗ pos c ldB) ∗ each (chunkPos c))

/-- The tokens of the duties that a device's own cells ever collect. -/
def ownToks (c : Dev nD) : sProp 𝕄 :=
  iprop(dutyTok ER (barC c) 0 true ∗ dutyTok ER (barC c) 0 false ∗ tok c ldA ∗ tok c ldB
    ∗ (each fun r => tok c (xsS r)) ∗ (each fun r => tok c (xrS r)) ∗ (each fun r => tok c (ysS r)) ∗ (each fun r => tok c (yrS r))
    ∗ (each fun r => tok c (stS r)) ∗ each fun r => tok c (ystS r))

/-- They are among those minted for the device. -/
theorem minted_own (c : Dev nD) : (minted c : sProp 𝕄) ⊢ ownToks c := by
  have hb (Φ : Bool → sProp 𝕄) : bigSep Finset.univ Φ = iprop(Φ true ∗ Φ false) := bigSep_univ_eq_bigSepL [true, false] (by decide) (by decide) Φ
  unfold minted ownToks
  rw [bigSep_univ_prod, split_sems, split_dma]
  unfold each
  simp only [hb, bigSep_sep']
  iintro ⟨⟨B1, B0⟩, ⟨-, H1⟩, ⟨-, H2⟩, ⟨-, H3⟩, ⟨-, H4⟩, ⟨-, H5⟩, ⟨-, H6⟩, ⟨-, H7⟩, -, H8⟩
  isplitl [B1]; · iexact B1
  isplitl [B0]; · iexact B0
  isplitl [H1]; · iexact H1
  isplitl [H2]; · iexact H2
  isplitl [H3]; · iexact H3
  isplitl [H4]; · iexact H4
  isplitl [H5]; · iexact H5
  isplitl [H6]; · iexact H6
  isplitl [H7] <;> iassumption

/-- The tokens go to the devices that pay with them: a barrier's and a receipt's to the neighbour along the axis. -/
theorem toks_around : (bigSep Finset.univ fun c : Dev nD => (minted c : sProp 𝕄)) ⊢ bigSep Finset.univ fun c : Dev nD => payToks c := by
  refine (show (bigSep Finset.univ fun c : Dev nD => (minted c : sProp 𝕄)) ⊢ bigSep Finset.univ fun c : Dev nD => ownToks c from
    bigSep_mono fun c _ => minted_own c).trans ?_
  unfold ownToks payToks chunkToks each
  simp only [bigSep_sep']
  rw [bigSep_univ_equiv xSwap (fun c : Dev nD => (dutyTok ER (barC c) 0 true : sProp 𝕄)),
    bigSep_univ_equiv ySwap (fun c : Dev nD => (dutyTok ER (barC c) 0 false : sProp 𝕄)),
    bigSep_univ_equiv xSwap (fun c : Dev nD => (each fun r => tok c (xrS r) : sProp 𝕄)),
    bigSep_univ_equiv ySwap (fun c : Dev nD => (each fun r => tok c (yrS r) : sProp 𝕄))]
  iintro ⟨B1, B0, H1, H2, H3, H4, H5, H6, H7, H8⟩
  isplitl [B1 B0 H1 H2]
  · isplitl [B1]; · iexact B1
    isplitl [B0]; · iexact B0
    isplitl [H1] <;> iassumption
  isplitl [H3]; · iexact H3
  isplitl [H4]; · iexact H4
  isplitl [H5]; · iexact H5
  isplitl [H6]; · iexact H6
  isplitl [H7] <;> iassumption

/-- The positions at all of a device's cells are those the body starts from. -/
theorem positions_of (c : Dev nD) : (bigSep Finset.univ fun s : SemLoc sig => (atPos ER (cellAt (c, s)) 0 ∅ 0 : sProp 𝕄)) ⊢ positions c := by
  rw [split_sems, split_dma]
  unfold positions chunkPos
  iintro ⟨HB, HA, Hb, HC⟩
  isplitl [HB HA Hb]
  · isplitl [HB]; · iexact HB
    isplitl [HA] <;> iassumption
  iexact HC

/-- What every device knows of the cells. -/
def records (K : Dev nD × SemLoc sig → ℕ) : sProp 𝕄 :=
  iprop((bigSep Finset.univ fun p : Dev nD × SemLoc sig => cellInv ER (sched m) (K p) (cellAt p))
    ∗ bigSep Finset.univ fun p : Dev nD × SemLoc sig => reached ER (cellAt p) 0)

/-- What every device knows of the cells can be used again and again. -/
instance records_persistent (K : Dev nD × SemLoc sig → ℕ) : BI.Persistent (records m K) := by unfold records; infer_instance

/-- Device `c`'s share of the protocol. -/
def shareOf (c : Dev nD) : sProp 𝕄 := iprop(∃ K, records m K ∗ positions c ∗ payToks c)

/-- The records, a device's positions and its tokens make up its share. -/
theorem share_intro (K : Dev nD × SemLoc sig → ℕ) (c : Dev nD) : iprop(records m K ∗ positions c ∗ payToks c) ⊢ shareOf m c := by
  unfold shareOf; iintro H; iexists K; iexact H

/-- All cells set up, every device gets its share. -/
theorem deal_shares :
    (bigSep Finset.univ fun c : Dev nD => iprop((bigSep Finset.univ fun s : SemLoc sig => iprop(∃ κ : ℕ, cellInv ER (sched m) κ (cellAt (c, s))))
          ∗ (bigSep Finset.univ fun s : SemLoc sig => iprop(atPos ER (cellAt (c, s)) 0 ∅ 0 ∗ reached ER (cellAt (c, s)) 0)) ∗ minted c) : sProp 𝕄)
      ⊢ bigSep Finset.univ (shareOf m) := by
  simp only [bigSep_sep']
  rw [← bigSep_univ_prod (fun p : Dev nD × SemLoc sig => iprop(∃ κ : ℕ, cellInv ER (sched m) κ (cellAt p))),
    ← bigSep_univ_prod (fun p : Dev nD × SemLoc sig => (reached ER (cellAt p) 0 : sProp 𝕄))]
  iintro ⟨HI, ⟨Hat, #HR⟩, Htok⟩
  ihave HK := (BI.bigSep_exists_pi Finset.univ (fun (p : Dev nD × SemLoc sig) (κ : ℕ) => (cellInv ER (sched m) κ (cellAt p) : sProp 𝕄))) $$ HI
  icases HK with ⟨%K, #HI⟩
  ihave Htk := (toks_around (F := F)) $$ Htok
  ihave Hps := (show (bigSep Finset.univ fun c : Dev nD => bigSep Finset.univ fun s : SemLoc sig => (atPos ER (cellAt (c, s)) 0 ∅ 0 : sProp 𝕄))
    ⊢ bigSep Finset.univ fun c : Dev nD => positions c from bigSep_mono fun c _ => positions_of c) $$ Hat
  iapply (show iprop(records m K ∗ (bigSep Finset.univ fun c : Dev nD => positions c) ∗ bigSep Finset.univ fun c : Dev nD => payToks c) ⊢ bigSep Finset.univ (shareOf m) from by
    rw [← bigSep_sep']
    refine (sep_mono_left (BI.bigSep_of_persistent (Finset.univ : Finset (Dev nD)) (records m K))).trans ?_
    rw [← bigSep_sep']
    exact bigSep_mono fun c _ => share_intro m K c)
  isplitr
  · unfold records; isplitl; · iexact HI
    iexact HR
  isplitl [Hps] <;> iassumption

/-- All devices' semaphores and deals become their shares. -/
theorem setup : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shareOf m) :=
  ((bigSep_mono fun c _ => cells_alloc m c).trans (bigSep_fupd _ _)).trans (BI.fupd_mono (deal_shares m))

end Deal

/-! ## The credits -/

/-- The receipts owed along the first axis, as a sum over all chunks. -/
theorem oX_sum (d : Dev nD) : oX d chunks = ∑ r : Fin 8, tallyAt (dmaC (xDev d) (xrS r)) () NX := by
  unfold oX; rw [← List.sum_toFinset _ (by decide)]; exact Finset.sum_congr (by decide) fun _ _ => rfl
/-- The receipts owed along the second axis, as a sum over all chunks. -/
theorem oY_sum (d : Dev nD) : oY d chunks = ∑ r : Fin 8, tallyAt (dmaC (yDev d) (yrS r)) () NX := by
  unfold oY; rw [← List.sum_toFinset _ (by decide)]; exact Finset.sum_congr (by decide) fun _ _ => rfl

/-- The barrier cells of two devices are the same only if the devices are. -/
theorem bar_iff {a b : Dev nD} : barC a = barC b ↔ a = b := ⟨fun h => congrArg (fun g : GSem nD τ sig => g.1.1) h, fun h => h ▸ rfl⟩
/-- Two transfer cells are the same only if their devices and semaphores are. -/
theorem dma_iff {a b : Dev nD} {s t : DmaSem sig} : dmaC a s = dmaC b t ↔ a = b ∧ s = t :=
  ⟨fun h => ⟨congrArg (fun g : GSem nD τ sig => g.1.1) h, dma_injective (congrArg Prod.snd h)⟩, fun ⟨h, h'⟩ => by rw [h, h']⟩
/-- A barrier cell is no transfer cell. -/
theorem bar_ne_dma {a b : Dev nD} {s : DmaSem sig} : barC a ≠ dmaC b s := fun h => by
  have h' : (SemLoc.reg barS : SemLoc sig) = .dma s := congrArg Prod.snd h
  injection h'

/-- What is tallied at a cell on the cells of eight semaphores of one device. -/
theorem sum_tally (a : Dev nD) (f : Fin 8 → DmaSem sig) (n : ℕ) (g : GSem nD τ sig) :
    (∑ r : Fin 8, tallyAt (dmaC a (f r)) () n : CellTallies nD τ sig Unit) g () = ∑ r : Fin 8, if g = dmaC a (f r) then n else 0 := by
  rw [Finset.sum_apply, Finsupp.finset_sum_apply]
  exact Finset.sum_congr rfl fun r _ => by rw [tallyAt_apply]; simp

/-- What one unit at a barrier cell counts at a cell. -/
theorem tally_bar (a : Dev nD) (g : GSem nD τ sig) : (tallyAt (barC a) () 1 : CellTallies nD τ sig Unit) g () = if g = barC a then 1 else 0 := by
  rw [tallyAt_apply]; simp

/-- What device `d` owes at a cell. -/
theorem owed_at (d : Dev nD) (g : GSem nD τ sig) :
    oAll d g () = (((∑ r : Fin 8, if g = dmaC (xDev d) (xrS r) then NX else 0) + ∑ r : Fin 8, if g = dmaC (yDev d) (yrS r) then NX else 0)
      + if g = barC (yDev d) then 1 else 0) + if g = barC (xDev d) then 1 else 0 := by
  unfold oAll
  rw [oX_sum, oY_sum]
  simp only [Pi.add_apply, Finsupp.add_apply]
  rw [sum_tally, sum_tally, tally_bar, tally_bar]

/-- What device `d` owes the barrier of `c`: a unit if they are neighbours. -/
theorem owed_bar (d c : Dev nD) : oAll d (barC c) () = (if d = yDev c then 1 else 0) + if d = xDev c then 1 else 0 := by
  rw [owed_at]
  simp only [bar_ne_dma, if_false, Finset.sum_const_zero, bar_iff, zero_add]
  have hy : (c = yDev d) = (d = yDev c) := propext ⟨fun h => by rw [h, yDev_yDev], fun h => by rw [h, yDev_yDev]⟩
  have hx : (c = xDev d) = (d = xDev c) := propext ⟨fun h => by rw [h, xDev_xDev], fun h => by rw [h, xDev_xDev]⟩
  simp only [hx, hy]

/-- A receipt is owed by the one device across, for the one chunk. -/
theorem one_owes (across : Dev nD → Dev nD) (h : ∀ c, across (across c) = c) (f : Fin 8 → DmaSem sig) (hf : Function.Injective f) (n : ℕ)
    (c : Dev nD) (r : Fin 8) : (∑ d : Dev nD, ∑ t : Fin 8, if dmaC c (f r) = dmaC (across d) (f t) then n else 0) = n := by
  rw [Finset.sum_eq_single (across c), Finset.sum_eq_single r]
  · rw [h, if_pos rfl]
  · intro t _ ht
    exact if_neg fun e => ht (hf (dma_iff.mp e).2.symm)
  · intro hr; exact absurd (Finset.mem_univ r) hr
  · intro d _ hd
    exact Finset.sum_eq_zero fun t _ => if_neg fun e => hd (by rw [(dma_iff.mp e).1, h])
  · intro hc; exact absurd (Finset.mem_univ _) hc

/-- Each chunk has its own receipt semaphore on the first axis. -/
theorem xrS_injective : Function.Injective xrS := by decide +kernel
/-- Each chunk has its own receipt semaphore on the second axis. -/
theorem yrS_injective : Function.Injective yrS := by decide +kernel
/-- No receipt semaphore serves both axes. -/
theorem xrS_ne_yrS (r t : Fin 8) : xrS r ≠ yrS t := by revert r t; decide +kernel

/-- What device `d` owes a receipt cell of `c` on the first axis. -/
theorem owed_x (d c : Dev nD) (r : Fin 8) : oAll d (dmaC c (xrS r)) () = ∑ t : Fin 8, if dmaC c (xrS r) = dmaC (xDev d) (xrS t) then NX else 0 := by
  have h0 (t : Fin 8) : (if dmaC c (xrS r) = dmaC (yDev d) (yrS t) then NX else 0) = 0 := if_neg fun e => xrS_ne_yrS r t (dma_iff.mp e).2
  rw [owed_at, if_neg bar_ne_dma.symm, if_neg bar_ne_dma.symm, Finset.sum_congr rfl fun t _ => h0 t, Finset.sum_const_zero, add_zero, add_zero, add_zero]
/-- What device `d` owes a receipt cell of `c` on the second axis. -/
theorem owed_y (d c : Dev nD) (r : Fin 8) : oAll d (dmaC c (yrS r)) () = ∑ t : Fin 8, if dmaC c (yrS r) = dmaC (yDev d) (yrS t) then NX else 0 := by
  have h0 (t : Fin 8) : (if dmaC c (yrS r) = dmaC (xDev d) (xrS t) then NX else 0) = 0 := if_neg fun e => xrS_ne_yrS t r (dma_iff.mp e).2.symm
  rw [owed_at, if_neg bar_ne_dma.symm, if_neg bar_ne_dma.symm, Finset.sum_congr rfl fun t _ => h0 t, Finset.sum_const_zero, add_zero, add_zero, zero_add]

/-- The launch credit of a cell is what all devices owe it. -/
theorem launch_at (g : GSem nD τ sig) (n : ℕ) (h : (∑ d : Dev nD, oAll d g ()) = n) :
    tallyOn g (launchCredit (Pipeline.owing oAll) 0 g) = (tallyAt g () n : CellTallies nD τ sig Unit) := by
  unfold tallyAt
  refine congrArg _ (Finsupp.ext fun u => ?_)
  cases u
  rw [Pipeline.launchCredit_owing, Finsupp.single_eq_same, h]

/-- The barrier cell of each device starts with a credit of two units. -/
theorem launch_bar (c : Dev nD) :
    tallyOn (barC c) (launchCredit (Pipeline.owing oAll) 0 (barC c)) = (tallyAt (barC c) () 2 : CellTallies nD τ sig Unit) := by
  refine launch_at _ _ ?_
  rw [Finset.sum_congr rfl fun d _ => owed_bar d c, Finset.sum_add_distrib,
    Finset.sum_ite_eq' Finset.univ (yDev c) fun _ => 1, Finset.sum_ite_eq' Finset.univ (xDev c) fun _ => 1, if_pos (Finset.mem_univ _), if_pos (Finset.mem_univ _)]
/-- A receipt cell on the first axis starts with the credit of one chunk. -/
theorem launch_x (c : Dev nD) (r : Fin 8) : tallyOn (dmaC c (xrS r)) (launchCredit (Pipeline.owing oAll) 0 (dmaC c (xrS r)))
    = (tallyAt (dmaC c (xrS r)) () (credit (roleOf (xrS r))) : CellTallies nD τ sig Unit) := by
  refine launch_at _ _ ?_
  rw [role_xr, Finset.sum_congr rfl fun d _ => owed_x d c r]
  exact one_owes xDev xDev_xDev xrS xrS_injective NX c r
/-- A receipt cell on the second axis starts with the credit of one chunk. -/
theorem launch_y (c : Dev nD) (r : Fin 8) : tallyOn (dmaC c (yrS r)) (launchCredit (Pipeline.owing oAll) 0 (dmaC c (yrS r)))
    = (tallyAt (dmaC c (yrS r)) () (credit (roleOf (yrS r))) : CellTallies nD τ sig Unit) := by
  refine launch_at _ _ ?_
  rw [role_yr, Finset.sum_congr rfl fun d _ => owed_y d c r]
  exact one_owes yDev yDev_yDev yrS yrS_injective NX c r

/-- Device `c` holds at launch the credits of its barrier and of all its receipts. -/
theorem credits (c : Dev nD) : (Pipeline.launchCred oAll c : sProp 𝕄) ⊢ iprop(cred (tallyAt (barC c) () 2) ∗ each (chunkCrd c)) := by
  unfold Pipeline.launchCred
  rw [split_sems, split_dma]
  refine (show _ ⊢ iprop(cred (tallyOn (barC c) (launchCredit (Pipeline.owing oAll) 0 (barC c)))
      ∗ each fun r => iprop(cred (tallyOn (dmaC c (xrS r)) (launchCredit (Pipeline.owing oAll) 0 (dmaC c (xrS r))))
          ∗ cred (tallyOn (dmaC c (yrS r)) (launchCredit (Pipeline.owing oAll) 0 (dmaC c (yrS r)))))) from ?_).trans ?_
  · unfold each
    simp only [bigSep_sep']
    iintro ⟨HB, -, -, -, HX, -, HY, -⟩
    isplitl [HB]; · iexact HB
    isplitl [HX]
    · iexact HX
    · iexact HY
  · rw [launch_bar]
    simp only [launch_x, launch_y]
    exact .rfl

end Cert.Summa

end
-- ==== Proof.Launch.lean ====
/-
The run of the whole program on all four devices: from any memory with every semaphore at zero, it ends with both factors as they
were, every device's result array at the sums, and every semaphore at zero again.
-/
module

public import proofs.«01_k».proof.Proof.Ghost
public import Idealize.ShloMosaic.Lib.Pipeline.CollectiveSegs

@[expose] public section

noncomputable section

namespace Cert.Summa

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its body -/

/-- What device `c` brings to its body, the scratch buffers apart. -/
def start (c : Dev nD) : sProp 𝕄 :=
  iprop((∃ K, known m K ∗ headGhost c ∗ each (chunkToks c) ∗ each (chunkPos c) ∗ each (chunkCrd c))
    ∗ (owns (c : Thread nD τ) (aHalf c) fullShare.right (aAll m c) ∗ owns (c : Thread nD τ) bH fullShare.right (bAll m c))
    ∗ (each fun r => any c (oOwn c r)) ∗ each fun r => any c (oNbr c r))

/-- What it holds before the body. -/
def before (c : Dev nD) : sProp 𝕄 := iprop(start m c ∗ scratch c)
/-- What it holds after the body. -/
def after (c : Dev nD) : sProp 𝕄 :=
  iprop(zeros c ∗ scratch c ∗ (each fun r => has c (oOwn c r) (total m c r)) ∗ each fun r => has c (oNbr c r) (other m c r))

/-- The body as the loop sees it: no windows, one point, the debt paid off at that point. -/
def dats (_ : Fin 1) (c : Dev nD) : Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => oAll c
    | ⟨_ + 1, _⟩ => 0

/-- A holding for every window of the kernel holds nothing: it has none. -/
theorem no_windows (Φ : Fin cfg0.W → sProp 𝕄) : bigSep Finset.univ Φ = BIBase.emp := by
  rw [show (Finset.univ : Finset (Fin cfg0.W)) = ∅ from rfl]; exact bigSep_empty

/-- Before its one grid point a device owes all its debt. -/
theorem owes_first (c : Dev nD) : (dats m 0 c).owesAt () t0_0.castSucc ⊢ (debt c (oAll c) : sProp 𝕄) := by
  unfold Dat.owesAt Pipeline.owesWithin debt
  iintro ⟨%W, -, H⟩
  iexists W
  iexact H
/-- After it, it owes nothing. -/
theorem owes_last (c : Dev nD) : (debt c 0 : sProp 𝕄) ⊢ (dats m 0 c).owesAt () t0_0.succ := by
  unfold Dat.owesAt Pipeline.owesWithin debt
  iintro ⟨%W, H⟩
  iexists W
  isplitr; · ipureintro; exact fun _ _ => Or.inl trivial
  iexact H

/-- The body runs from what a device holds before it to what it holds after it. -/
theorem point_runs (c : Dev nD) :
    iprop(before m c ∗ (dats m 0 c).owesAt () t0_0.castSucc ∗ emp)
      ⊢ runs c (bodyAt0 (F := F) t0_0) fun _ => iprop(after m c ∗ (dats m 0 c).owesAt () t0_0.succ ∗ emp) := by
  rw [body_eq]
  unfold before start after
  iintro ⟨⟨⟨⟨%K, HK, Hg⟩, Hab, Ho⟩, Hs⟩, HO, -⟩
  ihave HO := (owes_first m c) $$ HO
  iapply (wp_wand frame (wpE (defs₀ (F := F)) 𝒱₀ (c : Thread nD τ) none) Set.univ
    (Q := fun _ => iprop(debt c 0 ∗ zeros c ∗ scratch c
      ∗ (each fun r => has c (oOwn c r) (total m c r)) ∗ each fun r => has c (oNbr c r) (other m c r)))) $$ [HK Hg Hab Ho Hs HO]
  · iapply (body_runs m K c)
    isplitl [HK]; · iexact HK
    isplitl [HO]; · iexact HO
    isplitl [Hg]; · iexact Hg
    isplitl [Hab]; · iexact Hab
    isplitl [Hs] <;> iassumption
  iintro %_ ⟨HO, H⟩
  isplitl [H]; · iexact H
  isplitl [HO]
  · iapply (owes_last m c); iexact HO
  · iempintro

/-- The library's body obligation. -/
theorem body_obligation (c : Dev nD) : BodyObligation (dats m 0 c) (defs₀ (F := F)) 𝒱₀ () Set.univ := fun t => by
  rw [fin_N0 t, no_windows, no_windows]
  refine Entails.trans (?_ : _ ⊢ _) ((show _ ⊢ _ from point_runs m c).trans (?_ : _ ⊢ _))
  · exact .rfl
  · unfold runs
    refine Entails.of_eq ?_
    congr 1

/-! ## The launch's side conditions -/

/-- The arrays a device keeps half of, to see them unchanged at the end. -/
def kept (c : Dev nD) : sProp 𝕄 :=
  iprop((((c : Thread nD τ).loc main_arg0) ↦{fullShare.left} m ((c : Thread nD τ).loc main_arg0))
    ∗ ((c : Thread nD τ).loc main_arg1) ↦{fullShare.left} m ((c : Thread nD τ).loc main_arg1))

/-- What a device leaves beside its scratch and own semaphores. -/
def left (c : Dev nD) : sProp 𝕄 := iprop(unscopedSems0 c ∗ ((c : Thread nD τ).loc main_v1) ↦{fullShare} outAll m c)

/-- From the launch's deal: what the body starts from, and what is kept. -/
theorem start_intro (c : Dev nD) :
    iprop(unscopedRestP Prefetch.none cfg0.spec c (fun b => m ((c : Thread nD τ).loc b)) ∗ levAts L lv
        ∗ launchCred oAll c ∗ prngReg c (ρ c) ∗ shareOf m c)
      ⊢ |={Set.univ}=> iprop(start m c ∗ kept m c) := by
  rw [unscopedRestP_none, unscopedRest0_eq]
  unfold shareOf records positions payToks start kept known headGhost
  iintro ⟨⟨HA, HB, HO⟩, #HL, Hcr, -, ⟨%K, ⟨#HI, #HR⟩, ⟨⟨Pb, Pa, PB⟩, HP⟩, ⟨T1, T0, Ta, TB⟩, HT⟩⟩
  ihave Hc := (credits (F := F) c) $$ Hcr
  icases Hc with ⟨Cb, HC⟩
  ihave HA := (pointsTo_share (PosShare.mem_left_op_right fullShare)).1 $$ HA
  icases HA with ⟨HAl, HAr⟩
  ihave HB := (pointsTo_share (PosShare.mem_left_op_right fullShare)).1 $$ HB
  icases HB with ⟨HBl, HBr⟩
  imodintro
  isplitr [HAl HBl]
  · isplitr [HAr HBr HO]
    · iexists K
      isplitr
      · isplitr; · iexact HI
        isplitr; · iexact HR
        iexact HL
      isplitl [T1 T0 Cb Pb Ta Pa TB PB]
      · isplitl [T1 T0 Cb Pb]
        · isplitl [T1]; · iexact T1
          isplitl [T0]; · iexact T0
          isplitl [Cb] <;> iassumption
        isplitl [Ta Pa]
        · isplitl [Ta] <;> iassumption
        isplitl [TB] <;> iassumption
      isplitl [HT]; · iexact HT
      isplitl [HP] <;> iassumption
    isplitl [HAr HBr]
    · isplitl [HAr]
      · iapply (left_half m c); iexact HAr
      · iapply (right_rows m c); iexact HBr
    iapply (out_cut c (m ((c : Thread nD τ).loc main_v1))); iexact HO
  isplitl [HAl] <;> iassumption

/-- The scratch buffers join. -/
theorem before_intro (c : Dev nD) :
    iprop(start m c ∗ prefHeld Prefetch.none c (fun _ => fullShare.right) (fun k => k.elim0) ∗ scopedRest cfg0.spec c)
      ⊢ (dats m 0 c).Φ 0 := by
  rw [show (dats m 0 c).Φ 0 = before m c from rfl]
  unfold before
  iintro ⟨Hs, -, Hr⟩
  isplitl [Hs]; · iexact Hs
  iapply (scratch_whole (F := F) c).1; iexact Hr

/-- A device's semaphores at zero, as the launch takes them back. -/
theorem zeros_exit (c : Dev nD) : (zeros c : sProp 𝕄) ⊢ iprop(unscopedSems0 c ∗ ownSems0 osem c) := by
  rw [show (ownSems0 (Ix := Unit) (Name := ℕ) (U := UU) (Lvl := ℕ) (Val := Elt F) (τ := τ) osem c : sProp 𝕄)
    = bigSep Finset.univ fun s : DmaSem sig => semVal (dmaC c s) 0 from rfl, split_dma, unscopedSems_bar]
  unfold zeros chunkZero
  iintro ⟨⟨HB, Ha, Hb⟩, HC⟩
  isplitl [HB]; · iexact HB
  isplitl [Ha]; · iexact Ha
  isplitl [Hb]; · iexact Hb
  iexact HC

/-- What the body leaves is what the launch takes back, and the result array at the sums. -/
theorem after_exit (c : Dev nD) :
    (dats m 0 c).Φ (Fin.last cfg0.N) ⊢ iprop(left m c ∗ ownSems0 osem c ∗ scopedRest cfg0.spec c) := by
  rw [show (dats m 0 c).Φ (Fin.last cfg0.N) = after m c from rfl]
  unfold after left
  iintro ⟨Hz, Hs, Ho⟩
  ihave Hz := (zeros_exit (F := F) c) $$ Hz
  icases Hz with ⟨Hu, Hz⟩
  isplitl [Hu Ho]
  · isplitl [Hu]; · iexact Hu
    iapply (out_join m c); iexact Ho
  isplitl [Hz]; · iexact Hz
  iapply (scratch_whole (F := F) c).2; iexact Hs

/-- What device `c` shows at the end. -/
def Ends (c : Dev nD) (s : MemSt nD τ sig (Elt F)) : Prop :=
  s.mem ((c : Thread nD τ).loc main_v1) = outAll m c
    ∧ s.mem ((c : Thread nD τ).loc main_arg0) = m ((c : Thread nD τ).loc main_arg0)
    ∧ s.mem ((c : Thread nD τ).loc main_arg1) = m ((c : Thread nD τ).loc main_arg1)

/-- What is held of the arrays and semaphores at the end is what the machine's state shows. -/
theorem ends_read (c : Dev nD) (s' : Phys nD τ sig (Elt F)) :
    iprop(left m c ∗ kept m c ∗ SI s')
      ⊢ |={Set.univ}=> iprop(⌜(∀ sm : SemLoc sig, sm.isScoped .tc = false → s'.mem.sem ((c.tc : Thread nD τ), sm) = 0) ∧ Ends m c s'.mem⌝ ∗ SI s') := by
  unfold left kept
  iintro ⟨⟨Hu, HO⟩, ⟨HA, HB⟩, HS⟩
  icombine HS HO gives %hO
  icombine HS HA gives %hA
  icombine HS HB gives %hB
  imod (unscopedSems0_read (X := unscopedSems0 c) (c := c) fupd_intro s') $$ [Hu HS] with ⟨%hs, HS⟩
  · isplitl [Hu] <;> iassumption
  imodintro
  isplitr
  · ipureintro
    exact ⟨hs, Buf.eq_of_forall_mem_univ hO, Buf.eq_of_forall_mem_univ hA, Buf.eq_of_forall_mem_univ hB⟩
  iexact HS

/-! ## The run -/

set_option maxRecDepth 65536 in
/-- From any memory, every semaphore at zero, every weakly fair execution of the program terminates; in every final state both
    factors are unchanged and the result array is at the sums on every device, and every semaphore is at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := oAll) (howed₀ := fun _ => rfl) (howedN := fun _ => rfl)
    (L := L) (lv := lv) (hL := L_of_ne) (hwaits := fun c => Pipeline.cellsWaits_intro cfgs (dats m) () 0 c fun w _ _ => w.elim0)
    (G := dealt m) (G' := shareOf m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := setup m)
    (hA := fun _ w => w.elim0) (hpf := fun _ k => k.elim0)
    (X := start m) (Y := left m) (Z := kept m)
    (hX := start_intro m ρ) (hin := before_intro m) (hout := after_exit m)
    (QY := fun c s => (∀ sm : SemLoc sig, sm.isScoped .tc = false → s.sem ((c.tc : Thread nD τ), sm) = 0) ∧ Ends m c s)
    (hY := ends_read m)
    (hQ := fun _ h hs => ⟨fun c => (h c).2.2.2, sem_eq_zero hs fun c => (h c).2.2.1⟩)

end Cert.Summa

end
-- ==== Proof.Value.lean ====
/-
What the result array holds over the extended reals, where rounding changes nothing: every entry is the entry of the product of the
two whole matrices. A device's partial product sums over its half of the contracted coordinate, and its neighbour along the first mesh
axis adds the other half.
-/
module

public import proofs.«01_k».proof.Proof.Launch
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Summa

open Cert.KernelIdeal Cert.KernelIdeal.Gen
open Idealize.ShloMosaic Idealize.ShloMosaic.TcCoe Idealize.ShloMosaic.ValueIdx

/-! ## The product of the whole matrices, by halves -/

/-- Coordinate `k` of half `x` of the contracted coordinates. -/
def inHalf (x : Fin 2) (k : Fin 768) : Fin 1536 := ⟨768 * x.val + k.val, by omega⟩

/-- Half `x` of the sum that makes entry `(i, j)` of the product. -/
def halfSum (A B : Vec Ideal S1536x1536 .f32) (x : Fin 2) (i j : Fin 1536) : EReal :=
  ∑ k : Fin 768, A (ix2 i (inHalf x k)) * B (ix2 (inHalf x k) j)

/-- The product of the two matrices. -/
abbrev product (A B : Vec Ideal S1536x1536 .f32) : Vec Ideal S1536x1536 .f32 :=
  Host.dotGeneral (F := Ideal) (φ₁ := .f32) (φ₂ := .f32) (DotDims.plain 1536 1536 1536) none A B

/-- An entry of the product is the sum of its two halves. -/
theorem product_entry (A B : Vec Ideal S1536x1536 .f32) (i j : Fin 1536) :
    product A B (ix2 i j) = halfSum A B 0 i j + halfSum A B 1 i j := by
  refine (StackMember.dotGeneral_plain_apply (φ₁ := .f32) (φ₂ := .f32) none A B i j).trans ?_
  refine (Fin.sum_univ_add (M := EReal) (a := 768) (b := 768) fun k => A (ix2 i k) * B (ix2 k j)).trans ?_
  refine congrArg₂ (· + ·) (Finset.sum_congr rfl fun k _ => ?_) (Finset.sum_congr rfl fun k _ => ?_)
  · rw [show Fin.castAdd 768 k = inHalf 0 k from Fin.ext (show k.val = 768 * 0 + k.val by omega)]
  · rw [show Fin.natAdd 768 k = inHalf 1 k from Fin.ext (show 768 + k.val = 768 * 1 + k.val by omega)]

/-! ## What the kernel computes of a chunk, over the extended reals -/

/-- The product of a chunk. -/
theorem pay2_entry (a : Vec Ideal S96x768 .f32) (b : Vec Ideal S768x1536 .f32) (i : Fin 96) (j : Fin 1536) :
    k0_pay2 (F := Ideal) a b (ix2 i j) = ∑ k : Fin 768, a (ix2 i k) * b (ix2 k j) := by
  unfold k0_pay2 k0_pay1
  dsimp only
  rw [shapeCast_self, matmul_zero_eq_dotGeneral]
  exact StackMember.dotGeneral_plain_apply (φ₁ := .f32) (φ₂ := .f32) none a b i j

/-- Rounding it changes nothing. -/
theorem pay3_entry (a : Vec Ideal S96x768 .f32) (b : Vec Ideal S768x1536 .f32) (i : S96x1536.Idx) :
    k0_pay3 (F := Ideal) a b i = k0_pay2 (F := Ideal) a b i := by
  unfold k0_pay3 k0_pay2
  rw [shapeCast_self, shapeCast_self]; rfl

/-- The sum of two chunks, the second widened. -/
theorem pay30_entry (p : Vec Ideal S96x1536 .f32) (x : Vec Ideal S96x1536 .bf16) (i : S96x1536.Idx) :
    k0_pay30 (F := Ideal) p x i = (p i + x i : EReal) := by
  unfold k0_pay30 k0_pay29
  dsimp only
  rw [shapeCast_self]; rfl

/-- Rounding the sum and widening it again changes nothing. -/
theorem pay50_entry (p : Vec Ideal S96x1536 .f32) (x : Vec Ideal S96x1536 .bf16) (i : S96x1536.Idx) :
    k0_pay50 (F := Ideal) (k0_pay31 (F := Ideal) p x) i = k0_pay30 (F := Ideal) p x i := by
  unfold k0_pay50 k0_pay31 k0_pay30
  dsimp only
  rw [shapeCast_self, shapeCast_self, shapeCast_self]; rfl

/-! ## A device's chunks -/

section Shards

variable (m : (ℓ : Loc nD τ sig) → Buf (Elt Ideal) ℓ) (A B : Vec Ideal S1536x1536 .f32)

/-- Every device holds its columns of `A` and its rows of `B`. -/
structure Sharded : Prop where
  left : ∀ c : Dev nD, m ((c : Thread nD τ).loc main_arg0)
    = Layout.blockN ⟨2, ![1536, 768]⟩ ⟨2, ![1536, 1536]⟩ (Layout.meshBlock [2, 2] ![[], [0]] c) A
  right : ∀ c : Dev nD, m ((c : Thread nD τ).loc main_arg1)
    = Layout.blockN ⟨2, ![768, 1536]⟩ ⟨2, ![1536, 1536]⟩ (Layout.meshBlock [2, 2] ![[0], []] c) B

/-- The half of the contracted coordinates that device `c` holds. -/
def xOf (c : Dev nD) : Fin 2 := ⟨c.val / 2, by have := c.isLt; simp only [nD] at this; omega⟩

/-- The row of the whole result that is row `a` of chunk `r` of device `c`. -/
def rowOf (c : Dev nD) (r : Fin 8) (a : Fin 96) : Fin 1536 := ⟨768 * (c.val % 2) + 96 * r.val + a.val, by omega⟩

/-- The block of columns of the left factor that device `c` holds. -/
theorem mesh_left (c : Dev nD) (b : Fin 2) : ((Layout.meshBlock [2, 2] ![[], [0]] c : (b : Fin 2) → _) b).val = ![0, (xOf c).val] b := by
  revert c b; decide
/-- The block of rows of the right factor that device `c` holds. -/
theorem mesh_right (c : Dev nD) (b : Fin 2) : ((Layout.meshBlock [2, 2] ![[0], []] c : (b : Fin 2) → _) b).val = ![(xOf c).val, 0] b := by
  revert c b; decide

/-- The neighbour along the first mesh axis has the same rows. -/
theorem xDev_col (c : Dev nD) : k0_dev1 c % 2 = c.val % 2 := by revert c; decide
/-- The neighbour along the second mesh axis has the other rows. -/
theorem yDev_col (c : Dev nD) : k0_dev2 c % 2 = 1 - c.val % 2 := by revert c; decide
/-- A device and its neighbour along the first mesh axis hold the two halves. -/
theorem xOf_xDev (c : Dev nD) : (xOf c = 0 ∧ xOf (xDev c) = 1) ∨ (xOf c = 1 ∧ xOf (xDev c) = 0) := by revert c; decide

/-- Where chunk `r` that device `c` sums lies in the result. -/
theorem own_place (c : Dev nD) (r : Fin 8) (a : Fin 96) (j : Fin 1536) :
    (oRect c r).emb (ix2 a j : S96x1536.Idx) = ix2 (rowOf c r a) j := by
  have h := k0_off2_eq c r
  funext ax
  refine Fin.ext ((Rect.emb_apply _ _ _).trans ?_)
  match ax with
  | ⟨0, _⟩ => exact (congrArg (· + 1 * a.val) (congrFun h 0)).trans (show 768 * (c.val % 2) + 96 * r.val + 1 * a.val = 768 * (c.val % 2) + 96 * r.val + a.val by omega)
  | ⟨1, _⟩ => exact (congrArg (· + 1 * j.val) (congrFun h 1)).trans (show 0 + 1 * j.val = j.val by omega)

/-- Where chunk `r` that device `c` receives lies in the result: its neighbour's rows. -/
theorem other_place (c : Dev nD) (r : Fin 8) (a : Fin 96) (j : Fin 1536) :
    (nRect c r).emb (ix2 a j : S96x1536.Idx) = ix2 (rowOf (yDev c) r a) j := by
  have h := k0_off3_eq c r
  funext ax
  refine Fin.ext ((Rect.emb_apply _ _ _).trans ?_)
  match ax with
  | ⟨0, _⟩ =>
    refine (congrArg (· + 1 * a.val) (congrFun h 0)).trans ?_
    show (96 * r.val + 768) - 768 * (c.val % 2) + 1 * a.val = 768 * (k0_dev2 c % 2) + 96 * r.val + a.val
    rw [yDev_col]; omega
  | ⟨1, _⟩ => exact (congrArg (· + 1 * j.val) (congrFun h 1)).trans (show 0 + 1 * j.val = j.val by omega)

variable {m A B} (h : Sharded m A B)
include h

/-- An entry of the chunk of the left factor. -/
theorem left_entry (c : Dev nD) (r : Fin 8) (a : Fin 96) (k : Fin 768) :
    aPart m c r (ix2 a k) = A (ix2 (rowOf c r a) (inHalf (xOf c) k)) := by
  show m ((c : Thread nD τ).loc main_arg0) ((hRect c).emb ((aRect r).emb (ix2 a k))) = _
  rw [h.left c, Layout.blockN_apply]
  refine congrArg A (funext fun ax => Fin.ext ?_)
  rw [Layout.TilesN.idx_val, mesh_left, Rect.emb_apply, Rect.emb_apply]
  match ax with
  | ⟨0, _⟩ =>
    show 0 * 1536 + (k0_off1 c 0 + 1 * (96 * r.val + 1 * a.val)) = 768 * (c.val % 2) + 96 * r.val + a.val
    rw [show k0_off1 c 0 = 768 * (c.val % 2) from congrFun (k0_off1_eq c) 0]; omega
  | ⟨1, _⟩ =>
    show (c.val / 2) * 768 + (k0_off1 c 1 + 1 * (0 + 1 * k.val)) = 768 * (c.val / 2) + k.val
    rw [show k0_off1 c 1 = 0 from congrFun (k0_off1_eq c) 1]; omega

/-- An entry of the rows of the right factor. -/
theorem right_entry (c : Dev nD) (k : Fin 768) (j : Fin 1536) : bAll m c (ix2 k j) = B (ix2 (inHalf (xOf c) k) j) := by
  show m ((c : Thread nD τ).loc main_arg1) (ix2 k j) = _
  rw [h.right c, Layout.blockN_apply]
  refine congrArg B (funext fun ax => Fin.ext ?_)
  rw [Layout.TilesN.idx_val, mesh_right]
  match ax with
  | ⟨0, _⟩ => show (c.val / 2) * 768 + k.val = 768 * (c.val / 2) + k.val; omega
  | ⟨1, _⟩ => show 0 * 1536 + j.val = j.val; omega

/-- An entry of a device's partial product: its half of the sum. -/
theorem part_entry (c : Dev nD) (r : Fin 8) (a : Fin 96) (j : Fin 1536) :
    part m c r (ix2 a j) = halfSum A B (xOf c) (rowOf c r a) j :=
  (pay2_entry (aPart m c r) (bAll m c) a j).trans (Finset.sum_congr rfl fun k _ => by rw [left_entry h, right_entry h])

/-- An entry of the sum of both partial products: the entry of the product. -/
theorem total_entry (c : Dev nD) (r : Fin 8) (a : Fin 96) (j : Fin 1536) : total m c r (ix2 a j) = product A B (ix2 (rowOf c r a) j) := by
  have hsum : total m c r (ix2 a j) = (part m c r (ix2 a j) + part m (xDev c) r (ix2 a j) : EReal) :=
    (pay30_entry (part m c r) (partSent m (xDev c) r) (ix2 a j)).trans
      (congrArg (fun z : EReal => (part m c r (ix2 a j) + z : EReal)) (pay3_entry (aPart m (xDev c) r) (bAll m (xDev c)) (ix2 a j)))
  have hrow : rowOf (xDev c) r a = rowOf c r a :=
    Fin.ext (show 768 * (k0_dev1 c % 2) + 96 * r.val + a.val = 768 * (c.val % 2) + 96 * r.val + a.val by rw [xDev_col c])
  rw [hsum, part_entry h, part_entry h, hrow, product_entry]
  rcases xOf_xDev c with ⟨h0, h1⟩ | ⟨h0, h1⟩
  · rw [h0, h1]
  · rw [h0, h1]; exact add_comm _ _

/-! ## The result -/

/-- A chunk the device sums lies where the product's rows are. -/
theorem own_entry (c : Dev nD) (r : Fin 8) (j : S96x1536.Idx) : total m c r j = product A B ((oRect c r).emb j) := by
  obtain ⟨a, k, rfl⟩ : ∃ (a : Fin 96) (k : Fin 1536), (ix2 a k : S96x1536.Idx) = j := ⟨j 0, j 1, (eq_ix2 j).symm⟩
  rw [own_place]; exact total_entry h c r a k

/-- And so does a chunk it receives. -/
theorem other_entry (c : Dev nD) (r : Fin 8) (j : S96x1536.Idx) : other m c r j = product A B ((nRect c r).emb j) := by
  obtain ⟨a, k, rfl⟩ : ∃ (a : Fin 96) (k : Fin 1536), (ix2 a k : S96x1536.Idx) = j := ⟨j 0, j 1, (eq_ix2 j).symm⟩
  rw [other_place]
  exact (pay50_entry (part m (yDev c) r) (partSent m (xDev (yDev c)) r) _).trans (total_entry h (yDev c) r a k)

/-- Every chunk of a device's result is the product's. -/
theorem outPart_entry (c : Dev nD) (t : Bool × Fin 8) (j : (outRect c t).shape.Idx) :
    outPart m c t j = product A B ((outRect c t).emb j) := by
  obtain ⟨b, r⟩ := t
  cases b
  · exact other_entry h c r j
  · exact own_entry h c r j

/-- Every device's result array is the product of the whole matrices. -/
theorem outAll_eq (c : Dev nD) : outAll m c = product A B := by
  funext i
  obtain ⟨⟨t, j⟩, rfl⟩ := (cuts_out c).found i
  exact ((cuts_out c).glue_emb (outPart m c) t j).trans (outPart_entry h c t j)

end Shards

end Cert.Summa

end
-- ==== Proof.lean ====
/-
The proof of `Cert.Claim`: the kernel runs to its end on all four devices from any memory and leaves both factors as they were and
every semaphore at zero, whatever its floats are; and over the extended reals every device's result is the product of the whole
matrices, as the reference computes it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.SL.Sem Cert.Summa

/-- The kernel as it is compiled ends with both factors unchanged and every semaphore at zero. -/
theorem frame_kernel : Cert.quiescent_Kernel := fun m ρ _ =>
  (θ_run Cert.KernelIdeal.defs _ _).mono (fun _ h => ⟨fun c => (h.1 c).2, h.2⟩) (run_main (F := Bits) m ρ)

/-- So does its reading over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference ends with its arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the blocks of two matrices, every device's result over the extended reals is the product the reference computes. -/
theorem value : Cert.algebraic_KernelIdeal_ReferenceIdeal := fun m g m' g' _ hm => by
  refine ⟨product (m' (((0 : Dev Cert.ReferenceIdeal.nD).tc : Thread _ _).loc Cert.ReferenceIdeal.main_arg0))
    (m' (((0 : Dev Cert.ReferenceIdeal.nD).tc : Thread _ _).loc Cert.ReferenceIdeal.main_arg1)), ?_, ?_⟩
  · refine (θ_run Cert.KernelIdeal.defs _ _).mono (fun _ h c => ⟨(h.1 c).1.trans ?_, (h.1 c).2⟩) (run_main (F := Ideal) m g)
    exact outAll_eq ⟨fun c => (hm c).1, fun c => (hm c).2⟩ c
  · exact (θ_run Cert.ReferenceIdeal.defs _ _).mono (fun _ h => h 0) (Cert.ReferenceIdeal.Value.run m' g')

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
